-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x4096 : Shape := ⟨2, ![8192, 4096]⟩
abbrev S8192x128 : Shape := ⟨2, ![8192, 128]⟩
abbrev S2x2048x1024 : Shape := ⟨3, ![2, 2048, 1024]⟩
abbrev S2x256x1024 : Shape := ⟨3, ![2, 256, 1024]⟩
abbrev S32x256x128 : Shape := ⟨3, ![32, 256, 128]⟩
abbrev S2x2 : Shape := ⟨2, ![2, 2]⟩
abbrev S16 : Shape := ⟨1, ![16]⟩
abbrev S32 : Shape := ⟨1, ![32]⟩
abbrev S_ : Shape := ⟨0, ![]⟩
abbrev S1x1 : Shape := ⟨2, ![1, 1]⟩
abbrev S1x1024x1024 : Shape := ⟨3, ![1, 1024, 1024]⟩
abbrev S1024x1024 : Shape := ⟨2, ![1024, 1024]⟩
abbrev S256x2048 : Shape := ⟨2, ![256, 2048]⟩
abbrev S1x2048x1024 : Shape := ⟨3, ![1, 2048, 1024]⟩
abbrev S2048x1024 : Shape := ⟨2, ![2048, 1024]⟩
abbrev S256x1024 : Shape := ⟨2, ![256, 1024]⟩
abbrev S1x256x1024 : Shape := ⟨3, ![1, 256, 1024]⟩
abbrev S1x256x128 : Shape := ⟨3, ![1, 256, 128]⟩
abbrev S256x128 : Shape := ⟨2, ![256, 128]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S256x8192, .bf16⟩
  | .hbm, ⟨1, _⟩ => ⟨S8192x4096, .bf16⟩
  | .hbm, ⟨2, _⟩ => ⟨S8192x128, .f32⟩
  | .local _ .vmem, ⟨0, _⟩ => ⟨S256x8192, .bf16⟩
  | .local _ .vmem, ⟨1, _⟩ => ⟨S8192x128, .f32⟩
  | .local _ .vmem, ⟨2, _⟩ => ⟨S256x8192, .bf16⟩
  | .local _ .vmem, ⟨3, _⟩ => ⟨S2x2048x1024, .bf16⟩
  | .local _ .vmem, ⟨4, _⟩ => ⟨S2x256x1024, .bf16⟩
  | .local _ .vmem, ⟨5, _⟩ => ⟨S32x256x128, .bf16⟩
  | _, _ => ⟨S256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v9 : BitVec 32 := Scalar.addi v2 c2_i32
  let c32_i32_4 : BitVec 32 := 32#32
  let v10 : BitVec 32 := Scalar.remsi v9 c32_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 32 := Scalar.addi v2 c3_i32
  let c32_i32_8 : BitVec 32 := 32#32
  let v14 : BitVec 32 := Scalar.remsi v13 c32_i32_8
  let c1_i32_10 : BitVec 32 := 1#32
  let v15 : BitVec 32 := Scalar.muli v14 c1_i32_10
  let v16 : BitVec 32 := Scalar.addi c0_i32_11 v15
  v16.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v17 : BitVec 32 := Scalar.addi v2 c4_i32
  let c32_i32_12 : BitVec 32 := 32#32
  let v18 : BitVec 32 := Scalar.remsi v17 c32_i32_12
  let c1_i32_14 : BitVec 32 := 1#32
  let v19 : BitVec 32 := Scalar.muli v18 c1_i32_14
  let v20 : BitVec 32 := Scalar.addi c0_i32_15 v19
  v20.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v21 : BitVec 32 := Scalar.addi v2 c5_i32
  let c32_i32_16 : BitVec 32 := 32#32
  let v22 : BitVec 32 := Scalar.remsi v21 c32_i32_16
  let c1_i32_18 : BitVec 32 := 1#32
  let v23 : BitVec 32 := Scalar.muli v22 c1_i32_18
  let v24 : BitVec 32 := Scalar.addi c0_i32_19 v23
  v24.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v25 : BitVec 32 := Scalar.addi v2 c6_i32
  let c32_i32_20 : BitVec 32 := 32#32
  let v26 : BitVec 32 := Scalar.remsi v25 c32_i32_20
  let c1_i32_22 : BitVec 32 := 1#32
  let v27 : BitVec 32 := Scalar.muli v26 c1_i32_22
  let v28 : BitVec 32 := Scalar.addi c0_i32_23 v27
  v28.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v29 : BitVec 32 := Scalar.addi v2 c7_i32
  let c32_i32_24 : BitVec 32 := 32#32
  let v30 : BitVec 32 := Scalar.remsi v29 c32_i32_24
  let c1_i32_26 : BitVec 32 := 1#32
  let v31 : BitVec 32 := Scalar.muli v30 c1_i32_26
  let v32 : BitVec 32 := Scalar.addi c0_i32_27 v31
  v32.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_28 : BitVec 32 := 8#32
  let v33 : BitVec 32 := Scalar.addi v2 c8_i32_28
  let c32_i32_29 : BitVec 32 := 32#32
  let v34 : BitVec 32 := Scalar.remsi v33 c32_i32_29
  let c1_i32_31 : BitVec 32 := 1#32
  let v35 : BitVec 32 := Scalar.muli v34 c1_i32_31
  let v36 : BitVec 32 := Scalar.addi c0_i32_32 v35
  v36.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v37 : BitVec 32 := Scalar.addi v2 c9_i32
  let c32_i32_33 : BitVec 32 := 32#32
  let v38 : BitVec 32 := Scalar.remsi v37 c32_i32_33
  let c1_i32_35 : BitVec 32 := 1#32
  let v39 : BitVec 32 := Scalar.muli v38 c1_i32_35
  let v40 : BitVec 32 := Scalar.addi c0_i32_36 v39
  v40.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v41 : BitVec 32 := Scalar.addi v2 c10_i32
  let c32_i32_37 : BitVec 32 := 32#32
  let v42 : BitVec 32 := Scalar.remsi v41 c32_i32_37
  let c1_i32_39 : BitVec 32 := 1#32
  let v43 : BitVec 32 := Scalar.muli v42 c1_i32_39
  let v44 : BitVec 32 := Scalar.addi c0_i32_40 v43
  v44.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v45 : BitVec 32 := Scalar.addi v2 c11_i32
  let c32_i32_41 : BitVec 32 := 32#32
  let v46 : BitVec 32 := Scalar.remsi v45 c32_i32_41
  let c1_i32_43 : BitVec 32 := 1#32
  let v47 : BitVec 32 := Scalar.muli v46 c1_i32_43
  let v48 : BitVec 32 := Scalar.addi c0_i32_44 v47
  v48.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v49 : BitVec 32 := Scalar.addi v2 c12_i32
  let c32_i32_45 : BitVec 32 := 32#32
  let v50 : BitVec 32 := Scalar.remsi v49 c32_i32_45
  let c1_i32_47 : BitVec 32 := 1#32
  let v51 : BitVec 32 := Scalar.muli v50 c1_i32_47
  let v52 : BitVec 32 := Scalar.addi c0_i32_48 v51
  v52.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v53 : BitVec 32 := Scalar.addi v2 c13_i32
  let c32_i32_49 : BitVec 32 := 32#32
  let v54 : BitVec 32 := Scalar.remsi v53 c32_i32_49
  let c1_i32_51 : BitVec 32 := 1#32
  let v55 : BitVec 32 := Scalar.muli v54 c1_i32_51
  let v56 : BitVec 32 := Scalar.addi c0_i32_52 v55
  v56.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v57 : BitVec 32 := Scalar.addi v2 c14_i32
  let c32_i32_53 : BitVec 32 := 32#32
  let v58 : BitVec 32 := Scalar.remsi v57 c32_i32_53
  let c1_i32_55 : BitVec 32 := 1#32
  let v59 : BitVec 32 := Scalar.muli v58 c1_i32_55
  let v60 : BitVec 32 := Scalar.addi c0_i32_56 v59
  v60.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v61 : BitVec 32 := Scalar.addi v2 c15_i32
  let c32_i32_57 : BitVec 32 := 32#32
  let v62 : BitVec 32 := Scalar.remsi v61 c32_i32_57
  let c1_i32_59 : BitVec 32 := 1#32
  let v63 : BitVec 32 := Scalar.muli v62 c1_i32_59
  let v64 : BitVec 32 := Scalar.addi c0_i32_60 v63
  v64.toNat
def k0_dev16 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v65 : BitVec 32 := Scalar.addi v2 c16_i32
  let c32_i32_61 : BitVec 32 := 32#32
  let v66 : BitVec 32 := Scalar.remsi v65 c32_i32_61
  let c1_i32_63 : BitVec 32 := 1#32
  let v67 : BitVec 32 := Scalar.muli v66 c1_i32_63
  let v68 : BitVec 32 := Scalar.addi c0_i32_64 v67
  v68.toNat
def k0_dev17 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v69 : BitVec 32 := Scalar.addi v2 c17_i32
  let c32_i32_65 : BitVec 32 := 32#32
  let v70 : BitVec 32 := Scalar.remsi v69 c32_i32_65
  let c1_i32_67 : BitVec 32 := 1#32
  let v71 : BitVec 32 := Scalar.muli v70 c1_i32_67
  let v72 : BitVec 32 := Scalar.addi c0_i32_68 v71
  v72.toNat
def k0_dev18 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v73 : BitVec 32 := Scalar.addi v2 c18_i32
  let c32_i32_69 : BitVec 32 := 32#32
  let v74 : BitVec 32 := Scalar.remsi v73 c32_i32_69
  let c1_i32_71 : BitVec 32 := 1#32
  let v75 : BitVec 32 := Scalar.muli v74 c1_i32_71
  let v76 : BitVec 32 := Scalar.addi c0_i32_72 v75
  v76.toNat
def k0_dev19 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v77 : BitVec 32 := Scalar.addi v2 c19_i32
  let c32_i32_73 : BitVec 32 := 32#32
  let v78 : BitVec 32 := Scalar.remsi v77 c32_i32_73
  let c1_i32_75 : BitVec 32 := 1#32
  let v79 : BitVec 32 := Scalar.muli v78 c1_i32_75
  let v80 : BitVec 32 := Scalar.addi c0_i32_76 v79
  v80.toNat
def k0_dev20 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v81 : BitVec 32 := Scalar.addi v2 c20_i32
  let c32_i32_77 : BitVec 32 := 32#32
  let v82 : BitVec 32 := Scalar.remsi v81 c32_i32_77
  let c1_i32_79 : BitVec 32 := 1#32
  let v83 : BitVec 32 := Scalar.muli v82 c1_i32_79
  let v84 : BitVec 32 := Scalar.addi c0_i32_80 v83
  v84.toNat
def k0_dev21 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v85 : BitVec 32 := Scalar.addi v2 c21_i32
  let c32_i32_81 : BitVec 32 := 32#32
  let v86 : BitVec 32 := Scalar.remsi v85 c32_i32_81
  let c1_i32_83 : BitVec 32 := 1#32
  let v87 : BitVec 32 := Scalar.muli v86 c1_i32_83
  let v88 : BitVec 32 := Scalar.addi c0_i32_84 v87
  v88.toNat
def k0_dev22 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v89 : BitVec 32 := Scalar.addi v2 c22_i32
  let c32_i32_85 : BitVec 32 := 32#32
  let v90 : BitVec 32 := Scalar.remsi v89 c32_i32_85
  let c1_i32_87 : BitVec 32 := 1#32
  let v91 : BitVec 32 := Scalar.muli v90 c1_i32_87
  let v92 : BitVec 32 := Scalar.addi c0_i32_88 v91
  v92.toNat
def k0_dev23 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v93 : BitVec 32 := Scalar.addi v2 c23_i32
  let c32_i32_89 : BitVec 32 := 32#32
  let v94 : BitVec 32 := Scalar.remsi v93 c32_i32_89
  let c1_i32_91 : BitVec 32 := 1#32
  let v95 : BitVec 32 := Scalar.muli v94 c1_i32_91
  let v96 : BitVec 32 := Scalar.addi c0_i32_92 v95
  v96.toNat
def k0_dev24 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v97 : BitVec 32 := Scalar.addi v2 c24_i32
  let c32_i32_93 : BitVec 32 := 32#32
  let v98 : BitVec 32 := Scalar.remsi v97 c32_i32_93
  let c1_i32_95 : BitVec 32 := 1#32
  let v99 : BitVec 32 := Scalar.muli v98 c1_i32_95
  let v100 : BitVec 32 := Scalar.addi c0_i32_96 v99
  v100.toNat
def k0_dev25 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v101 : BitVec 32 := Scalar.addi v2 c25_i32
  let c32_i32_97 : BitVec 32 := 32#32
  let v102 : BitVec 32 := Scalar.remsi v101 c32_i32_97
  let c1_i32_99 : BitVec 32 := 1#32
  let v103 : BitVec 32 := Scalar.muli v102 c1_i32_99
  let v104 : BitVec 32 := Scalar.addi c0_i32_100 v103
  v104.toNat
def k0_dev26 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v105 : BitVec 32 := Scalar.addi v2 c26_i32
  let c32_i32_101 : BitVec 32 := 32#32
  let v106 : BitVec 32 := Scalar.remsi v105 c32_i32_101
  let c1_i32_103 : BitVec 32 := 1#32
  let v107 : BitVec 32 := Scalar.muli v106 c1_i32_103
  let v108 : BitVec 32 := Scalar.addi c0_i32_104 v107
  v108.toNat
def k0_dev27 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v109 : BitVec 32 := Scalar.addi v2 c27_i32
  let c32_i32_105 : BitVec 32 := 32#32
  let v110 : BitVec 32 := Scalar.remsi v109 c32_i32_105
  let c1_i32_107 : BitVec 32 := 1#32
  let v111 : BitVec 32 := Scalar.muli v110 c1_i32_107
  let v112 : BitVec 32 := Scalar.addi c0_i32_108 v111
  v112.toNat
def k0_dev28 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v113 : BitVec 32 := Scalar.addi v2 c28_i32
  let c32_i32_109 : BitVec 32 := 32#32
  let v114 : BitVec 32 := Scalar.remsi v113 c32_i32_109
  let c1_i32_111 : BitVec 32 := 1#32
  let v115 : BitVec 32 := Scalar.muli v114 c1_i32_111
  let v116 : BitVec 32 := Scalar.addi c0_i32_112 v115
  v116.toNat
def k0_dev29 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v117 : BitVec 32 := Scalar.addi v2 c29_i32
  let c32_i32_113 : BitVec 32 := 32#32
  let v118 : BitVec 32 := Scalar.remsi v117 c32_i32_113
  let c1_i32_115 : BitVec 32 := 1#32
  let v119 : BitVec 32 := Scalar.muli v118 c1_i32_115
  let v120 : BitVec 32 := Scalar.addi c0_i32_116 v119
  v120.toNat
def k0_dev30 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v121 : BitVec 32 := Scalar.addi v2 c30_i32
  let c32_i32_117 : BitVec 32 := 32#32
  let v122 : BitVec 32 := Scalar.remsi v121 c32_i32_117
  let c1_i32_119 : BitVec 32 := 1#32
  let v123 : BitVec 32 := Scalar.muli v122 c1_i32_119
  let v124 : BitVec 32 := Scalar.addi c0_i32_120 v123
  v124.toNat
def k0_dev31 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v125 : BitVec 32 := Scalar.addi v2 c31_i32
  let c32_i32_121 : BitVec 32 := 32#32
  let v126 : BitVec 32 := Scalar.remsi v125 c32_i32_121
  let c1_i32_123 : BitVec 32 := 1#32
  let v127 : BitVec 32 := Scalar.muli v126 c1_i32_123
  let v128 : BitVec 32 := Scalar.addi c0_i32_124 v127
  v128.toNat
def k0_off1 (d0 : Dev nD) (c0_i32_129 : BitVec 32) : Fin 2 → Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v134 : BitVec 32 := Scalar.addi v3 c0_i32_129
  let c4_i32_130 : BitVec 32 := 4#32
  let v135 : BitVec 32 := Scalar.remsi v134 c4_i32_130
  let c1024_i32 : BitVec 32 := 1024#32
  let v136 : BitVec 32 := Scalar.muli v135 c1024_i32
  ![0, v136.toNat]
def k0_off2 (d0 : Dev nD) (c0_i32_129 : BitVec 32) : Fin 2 → Nat :=
  let c1024_i32_143 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v134 : BitVec 32 := Scalar.addi v3 c0_i32_129
  let c4_i32_130 : BitVec 32 := 4#32
  let v135 : BitVec 32 := Scalar.remsi v134 c4_i32_130
  let c1024_i32_137 : BitVec 32 := 1024#32
  let v142 : BitVec 32 := Scalar.muli v135 c1024_i32_137
  ![1024, v142.toNat]
def k0_off3 (d0 : Dev nD) (c0_i32_144 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v148 : BitVec 32 := Scalar.addi v3 c0_i32_144
  let c4_i32_145 : BitVec 32 := 4#32
  let v149 : BitVec 32 := Scalar.remsi v148 c4_i32_145
  let c1024_i32_146 : BitVec 32 := 1024#32
  let v150 : BitVec 32 := Scalar.muli v149 c1024_i32_146
  ![2048, v150.toNat]
def k0_off4 (d0 : Dev nD) (c0_i32_144 : BitVec 32) : Fin 2 → Nat :=
  let c3072_i32 : BitVec 32 := 3072#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v148 : BitVec 32 := Scalar.addi v3 c0_i32_144
  let c4_i32_145 : BitVec 32 := 4#32
  let v149 : BitVec 32 := Scalar.remsi v148 c4_i32_145
  let c1024_i32_152 : BitVec 32 := 1024#32
  let v156 : BitVec 32 := Scalar.muli v149 c1024_i32_152
  ![3072, v156.toNat]
def k0_off5 (d0 : Dev nD) (c0_i32_177 : BitVec 32) : Fin 2 → Nat :=
  let c4096_i32 : BitVec 32 := 4096#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v178 : BitVec 32 := Scalar.addi v3 c0_i32_177
  let c4_i32_178 : BitVec 32 := 4#32
  let v179 : BitVec 32 := Scalar.remsi v178 c4_i32_178
  let c1024_i32_179 : BitVec 32 := 1024#32
  let v180 : BitVec 32 := Scalar.muli v179 c1024_i32_179
  ![4096, v180.toNat]
def k0_off6 (d0 : Dev nD) (c0_i32_177 : BitVec 32) : Fin 2 → Nat :=
  let c5120_i32 : BitVec 32 := 5120#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v178 : BitVec 32 := Scalar.addi v3 c0_i32_177
  let c4_i32_178 : BitVec 32 := 4#32
  let v179 : BitVec 32 := Scalar.remsi v178 c4_i32_178
  let c1024_i32_185 : BitVec 32 := 1024#32
  let v186 : BitVec 32 := Scalar.muli v179 c1024_i32_185
  ![5120, v186.toNat]
def k0_off7 (d0 : Dev nD) (c0_i32_207 : BitVec 32) : Fin 2 → Nat :=
  let c6144_i32 : BitVec 32 := 6144#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v206 : BitVec 32 := Scalar.addi v3 c0_i32_207
  let c4_i32_208 : BitVec 32 := 4#32
  let v207 : BitVec 32 := Scalar.remsi v206 c4_i32_208
  let c1024_i32_209 : BitVec 32 := 1024#32
  let v208 : BitVec 32 := Scalar.muli v207 c1024_i32_209
  ![6144, v208.toNat]
def k0_off8 (d0 : Dev nD) (c0_i32_207 : BitVec 32) : Fin 2 → Nat :=
  let c7168_i32 : BitVec 32 := 7168#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v206 : BitVec 32 := Scalar.addi v3 c0_i32_207
  let c4_i32_208 : BitVec 32 := 4#32
  let v207 : BitVec 32 := Scalar.remsi v206 c4_i32_208
  let c1024_i32_215 : BitVec 32 := 1024#32
  let v214 : BitVec 32 := Scalar.muli v207 c1024_i32_215
  ![7168, v214.toNat]
def k0_off9 (d0 : Dev nD) : Fin 3 → Nat :=
  let c0_292 : Index := 0#32
  let c0_293 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_291 : BitVec 32 := 8#32
  let v285 : BitVec 32 := Scalar.remsi v2 c8_i32_291
  let c128_i32 : BitVec 32 := 128#32
  let v286 : BitVec 32 := Scalar.muli v285 c128_i32
  let v287 : Index := Scalar.indexCast v286
  ![0, 0, v287.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v290 : Index := Scalar.indexCast v2
  let c0_294 : Index := 0#32
  let c0_295 : Index := 0#32
  ![v290.toNat, 0, 0]
def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_304 : BitVec 32 := 0#32
  let c0_i32_305 : BitVec 32 := 0#32
  ![v2.toNat, 0, 0]
def k0_off13 (d0 : Dev nD) (c1_i32_296 : BitVec 32) : Fin 3 → Nat :=
  let c0_i32_300 : BitVec 32 := 0#32
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v294 : BitVec 32 := Scalar.addi v2 c1_i32_296
  let c8_i32_297 : BitVec 32 := 8#32
  let v295 : BitVec 32 := Scalar.remsi v294 c8_i32_297
  let c128_i32_299 : BitVec 32 := 128#32
  let v298 : BitVec 32 := Scalar.muli v295 c128_i32_299
  ![0, 0, v298.toNat]
def k0_dev32 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_158 : BitVec 32 := 0#32
  let v162 : BitVec 32 := Scalar.addi v3 c0_i32_158
  let c4_i32_159 : BitVec 32 := 4#32
  let v163 : BitVec 32 := Scalar.remsi v162 c4_i32_159
  let c8_i32_298 : BitVec 32 := 8#32
  let v296 : BitVec 32 := Scalar.muli v163 c8_i32_298
  let c1_i32_296 : BitVec 32 := 1#32
  let v294 : BitVec 32 := Scalar.addi v2 c1_i32_296
  let c8_i32_297 : BitVec 32 := 8#32
  let v295 : BitVec 32 := Scalar.remsi v294 c8_i32_297
  let v297 : BitVec 32 := Scalar.addi v296 v295
  let c1_i32_302 : BitVec 32 := 1#32
  let v299 : BitVec 32 := Scalar.muli v297 c1_i32_302
  let v300 : BitVec 32 := Scalar.addi c0_i32_303 v299
  v300.toNat
def k0_dev33 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_158 : BitVec 32 := 0#32
  let v162 : BitVec 32 := Scalar.addi v3 c0_i32_158
  let c4_i32_159 : BitVec 32 := 4#32
  let v163 : BitVec 32 := Scalar.remsi v162 c4_i32_159
  let c8_i32_309 : BitVec 32 := 8#32
  let v311 : BitVec 32 := Scalar.muli v163 c8_i32_309
  let c2_i32_307 : BitVec 32 := 2#32
  let v309 : BitVec 32 := Scalar.addi v2 c2_i32_307
  let c8_i32_308 : BitVec 32 := 8#32
  let v310 : BitVec 32 := Scalar.remsi v309 c8_i32_308
  let v312 : BitVec 32 := Scalar.addi v311 v310
  let c1_i32_313 : BitVec 32 := 1#32
  let v314 : BitVec 32 := Scalar.muli v312 c1_i32_313
  let v315 : BitVec 32 := Scalar.addi c0_i32_314 v314
  v315.toNat
def k0_dev34 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_158 : BitVec 32 := 0#32
  let v162 : BitVec 32 := Scalar.addi v3 c0_i32_158
  let c4_i32_159 : BitVec 32 := 4#32
  let v163 : BitVec 32 := Scalar.remsi v162 c4_i32_159
  let c8_i32_320 : BitVec 32 := 8#32
  let v326 : BitVec 32 := Scalar.muli v163 c8_i32_320
  let c3_i32_318 : BitVec 32 := 3#32
  let v324 : BitVec 32 := Scalar.addi v2 c3_i32_318
  let c8_i32_319 : BitVec 32 := 8#32
  let v325 : BitVec 32 := Scalar.remsi v324 c8_i32_319
  let v327 : BitVec 32 := Scalar.addi v326 v325
  let c1_i32_324 : BitVec 32 := 1#32
  let v329 : BitVec 32 := Scalar.muli v327 c1_i32_324
  let v330 : BitVec 32 := Scalar.addi c0_i32_325 v329
  v330.toNat
def k0_dev35 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_158 : BitVec 32 := 0#32
  let v162 : BitVec 32 := Scalar.addi v3 c0_i32_158
  let c4_i32_159 : BitVec 32 := 4#32
  let v163 : BitVec 32 := Scalar.remsi v162 c4_i32_159
  let c8_i32_331 : BitVec 32 := 8#32
  let v341 : BitVec 32 := Scalar.muli v163 c8_i32_331
  let c4_i32_329 : BitVec 32 := 4#32
  let v339 : BitVec 32 := Scalar.addi v2 c4_i32_329
  let c8_i32_330 : BitVec 32 := 8#32
  let v340 : BitVec 32 := Scalar.remsi v339 c8_i32_330
  let v342 : BitVec 32 := Scalar.addi v341 v340
  let c1_i32_335 : BitVec 32 := 1#32
  let v344 : BitVec 32 := Scalar.muli v342 c1_i32_335
  let v345 : BitVec 32 := Scalar.addi c0_i32_336 v344
  v345.toNat
def k0_dev36 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_158 : BitVec 32 := 0#32
  let v162 : BitVec 32 := Scalar.addi v3 c0_i32_158
  let c4_i32_159 : BitVec 32 := 4#32
  let v163 : BitVec 32 := Scalar.remsi v162 c4_i32_159
  let c8_i32_342 : BitVec 32 := 8#32
  let v356 : BitVec 32 := Scalar.muli v163 c8_i32_342
  let c5_i32_340 : BitVec 32 := 5#32
  let v354 : BitVec 32 := Scalar.addi v2 c5_i32_340
  let c8_i32_341 : BitVec 32 := 8#32
  let v355 : BitVec 32 := Scalar.remsi v354 c8_i32_341
  let v357 : BitVec 32 := Scalar.addi v356 v355
  let c1_i32_346 : BitVec 32 := 1#32
  let v359 : BitVec 32 := Scalar.muli v357 c1_i32_346
  let v360 : BitVec 32 := Scalar.addi c0_i32_347 v359
  v360.toNat
def k0_dev37 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_158 : BitVec 32 := 0#32
  let v162 : BitVec 32 := Scalar.addi v3 c0_i32_158
  let c4_i32_159 : BitVec 32 := 4#32
  let v163 : BitVec 32 := Scalar.remsi v162 c4_i32_159
  let c8_i32_353 : BitVec 32 := 8#32
  let v371 : BitVec 32 := Scalar.muli v163 c8_i32_353
  let c6_i32_351 : BitVec 32 := 6#32
  let v369 : BitVec 32 := Scalar.addi v2 c6_i32_351
  let c8_i32_352 : BitVec 32 := 8#32
  let v370 : BitVec 32 := Scalar.remsi v369 c8_i32_352
  let v372 : BitVec 32 := Scalar.addi v371 v370
  let c1_i32_357 : BitVec 32 := 1#32
  let v374 : BitVec 32 := Scalar.muli v372 c1_i32_357
  let v375 : BitVec 32 := Scalar.addi c0_i32_358 v374
  v375.toNat
def k0_dev38 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_158 : BitVec 32 := 0#32
  let v162 : BitVec 32 := Scalar.addi v3 c0_i32_158
  let c4_i32_159 : BitVec 32 := 4#32
  let v163 : BitVec 32 := Scalar.remsi v162 c4_i32_159
  let c8_i32_364 : BitVec 32 := 8#32
  let v386 : BitVec 32 := Scalar.muli v163 c8_i32_364
  let c7_i32_362 : BitVec 32 := 7#32
  let v384 : BitVec 32 := Scalar.addi v2 c7_i32_362
  let c8_i32_363 : BitVec 32 := 8#32
  let v385 : BitVec 32 := Scalar.remsi v384 c8_i32_363
  let v387 : BitVec 32 := Scalar.addi v386 v385
  let c1_i32_368 : BitVec 32 := 1#32
  let v389 : BitVec 32 := Scalar.muli v387 c1_i32_368
  let v390 : BitVec 32 := Scalar.addi c0_i32_369 v389
  v390.toNat
def k0_off14 (d0 : Dev nD) (c0_i32_515 : BitVec 32) : Fin 3 → Nat :=
  let c1_i32_519 : BitVec 32 := 1#32
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : BitVec 32 := Scalar.addi v2 c0_i32_515
  let c8_i32_516 : BitVec 32 := 8#32
  let v523 : BitVec 32 := Scalar.remsi v522 c8_i32_516
  let c128_i32_518 : BitVec 32 := 128#32
  let v526 : BitVec 32 := Scalar.muli v523 c128_i32_518
  ![1, 0, v526.toNat]
def k0_dev39 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_373 : BitVec 32 := 1#32
  let v399 : BitVec 32 := Scalar.addi v3 c1_i32_373
  let c4_i32_374 : BitVec 32 := 4#32
  let v400 : BitVec 32 := Scalar.remsi v399 c4_i32_374
  let c8_i32_517 : BitVec 32 := 8#32
  let v524 : BitVec 32 := Scalar.muli v400 c8_i32_517
  let c0_i32_515 : BitVec 32 := 0#32
  let v522 : BitVec 32 := Scalar.addi v2 c0_i32_515
  let c8_i32_516 : BitVec 32 := 8#32
  let v523 : BitVec 32 := Scalar.remsi v522 c8_i32_516
  let v525 : BitVec 32 := Scalar.addi v524 v523
  let c1_i32_521 : BitVec 32 := 1#32
  let v527 : BitVec 32 := Scalar.muli v525 c1_i32_521
  let v528 : BitVec 32 := Scalar.addi c0_i32_522 v527
  v528.toNat
def k0_dev40 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_373 : BitVec 32 := 1#32
  let v399 : BitVec 32 := Scalar.addi v3 c1_i32_373
  let c4_i32_374 : BitVec 32 := 4#32
  let v400 : BitVec 32 := Scalar.remsi v399 c4_i32_374
  let c8_i32_528 : BitVec 32 := 8#32
  let v539 : BitVec 32 := Scalar.muli v400 c8_i32_528
  let c1_i32_526 : BitVec 32 := 1#32
  let v537 : BitVec 32 := Scalar.addi v2 c1_i32_526
  let c8_i32_527 : BitVec 32 := 8#32
  let v538 : BitVec 32 := Scalar.remsi v537 c8_i32_527
  let v540 : BitVec 32 := Scalar.addi v539 v538
  let c1_i32_532 : BitVec 32 := 1#32
  let v542 : BitVec 32 := Scalar.muli v540 c1_i32_532
  let v543 : BitVec 32 := Scalar.addi c0_i32_533 v542
  v543.toNat
def k0_dev41 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_373 : BitVec 32 := 1#32
  let v399 : BitVec 32 := Scalar.addi v3 c1_i32_373
  let c4_i32_374 : BitVec 32 := 4#32
  let v400 : BitVec 32 := Scalar.remsi v399 c4_i32_374
  let c8_i32_539 : BitVec 32 := 8#32
  let v554 : BitVec 32 := Scalar.muli v400 c8_i32_539
  let c2_i32_537 : BitVec 32 := 2#32
  let v552 : BitVec 32 := Scalar.addi v2 c2_i32_537
  let c8_i32_538 : BitVec 32 := 8#32
  let v553 : BitVec 32 := Scalar.remsi v552 c8_i32_538
  let v555 : BitVec 32 := Scalar.addi v554 v553
  let c1_i32_543 : BitVec 32 := 1#32
  let v557 : BitVec 32 := Scalar.muli v555 c1_i32_543
  let v558 : BitVec 32 := Scalar.addi c0_i32_544 v557
  v558.toNat
def k0_dev42 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_373 : BitVec 32 := 1#32
  let v399 : BitVec 32 := Scalar.addi v3 c1_i32_373
  let c4_i32_374 : BitVec 32 := 4#32
  let v400 : BitVec 32 := Scalar.remsi v399 c4_i32_374
  let c8_i32_550 : BitVec 32 := 8#32
  let v569 : BitVec 32 := Scalar.muli v400 c8_i32_550
  let c3_i32_548 : BitVec 32 := 3#32
  let v567 : BitVec 32 := Scalar.addi v2 c3_i32_548
  let c8_i32_549 : BitVec 32 := 8#32
  let v568 : BitVec 32 := Scalar.remsi v567 c8_i32_549
  let v570 : BitVec 32 := Scalar.addi v569 v568
  let c1_i32_554 : BitVec 32 := 1#32
  let v572 : BitVec 32 := Scalar.muli v570 c1_i32_554
  let v573 : BitVec 32 := Scalar.addi c0_i32_555 v572
  v573.toNat
def k0_dev43 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_373 : BitVec 32 := 1#32
  let v399 : BitVec 32 := Scalar.addi v3 c1_i32_373
  let c4_i32_374 : BitVec 32 := 4#32
  let v400 : BitVec 32 := Scalar.remsi v399 c4_i32_374
  let c8_i32_561 : BitVec 32 := 8#32
  let v584 : BitVec 32 := Scalar.muli v400 c8_i32_561
  let c4_i32_559 : BitVec 32 := 4#32
  let v582 : BitVec 32 := Scalar.addi v2 c4_i32_559
  let c8_i32_560 : BitVec 32 := 8#32
  let v583 : BitVec 32 := Scalar.remsi v582 c8_i32_560
  let v585 : BitVec 32 := Scalar.addi v584 v583
  let c1_i32_565 : BitVec 32 := 1#32
  let v587 : BitVec 32 := Scalar.muli v585 c1_i32_565
  let v588 : BitVec 32 := Scalar.addi c0_i32_566 v587
  v588.toNat
def k0_dev44 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_373 : BitVec 32 := 1#32
  let v399 : BitVec 32 := Scalar.addi v3 c1_i32_373
  let c4_i32_374 : BitVec 32 := 4#32
  let v400 : BitVec 32 := Scalar.remsi v399 c4_i32_374
  let c8_i32_572 : BitVec 32 := 8#32
  let v599 : BitVec 32 := Scalar.muli v400 c8_i32_572
  let c5_i32_570 : BitVec 32 := 5#32
  let v597 : BitVec 32 := Scalar.addi v2 c5_i32_570
  let c8_i32_571 : BitVec 32 := 8#32
  let v598 : BitVec 32 := Scalar.remsi v597 c8_i32_571
  let v600 : BitVec 32 := Scalar.addi v599 v598
  let c1_i32_576 : BitVec 32 := 1#32
  let v602 : BitVec 32 := Scalar.muli v600 c1_i32_576
  let v603 : BitVec 32 := Scalar.addi c0_i32_577 v602
  v603.toNat
def k0_dev45 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_373 : BitVec 32 := 1#32
  let v399 : BitVec 32 := Scalar.addi v3 c1_i32_373
  let c4_i32_374 : BitVec 32 := 4#32
  let v400 : BitVec 32 := Scalar.remsi v399 c4_i32_374
  let c8_i32_583 : BitVec 32 := 8#32
  let v614 : BitVec 32 := Scalar.muli v400 c8_i32_583
  let c6_i32_581 : BitVec 32 := 6#32
  let v612 : BitVec 32 := Scalar.addi v2 c6_i32_581
  let c8_i32_582 : BitVec 32 := 8#32
  let v613 : BitVec 32 := Scalar.remsi v612 c8_i32_582
  let v615 : BitVec 32 := Scalar.addi v614 v613
  let c1_i32_587 : BitVec 32 := 1#32
  let v617 : BitVec 32 := Scalar.muli v615 c1_i32_587
  let v618 : BitVec 32 := Scalar.addi c0_i32_588 v617
  v618.toNat
def k0_dev46 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_373 : BitVec 32 := 1#32
  let v399 : BitVec 32 := Scalar.addi v3 c1_i32_373
  let c4_i32_374 : BitVec 32 := 4#32
  let v400 : BitVec 32 := Scalar.remsi v399 c4_i32_374
  let c8_i32_594 : BitVec 32 := 8#32
  let v629 : BitVec 32 := Scalar.muli v400 c8_i32_594
  let c7_i32_592 : BitVec 32 := 7#32
  let v627 : BitVec 32 := Scalar.addi v2 c7_i32_592
  let c8_i32_593 : BitVec 32 := 8#32
  let v628 : BitVec 32 := Scalar.remsi v627 c8_i32_593
  let v630 : BitVec 32 := Scalar.addi v629 v628
  let c1_i32_598 : BitVec 32 := 1#32
  let v632 : BitVec 32 := Scalar.muli v630 c1_i32_598
  let v633 : BitVec 32 := Scalar.addi c0_i32_599 v632
  v633.toNat
def k0_dev47 (d0 : Dev nD) : Nat :=
  let c0_i32_794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_603 : BitVec 32 := 2#32
  let v642 : BitVec 32 := Scalar.addi v3 c2_i32_603
  let c4_i32_604 : BitVec 32 := 4#32
  let v643 : BitVec 32 := Scalar.remsi v642 c4_i32_604
  let c8_i32_789 : BitVec 32 := 8#32
  let v809 : BitVec 32 := Scalar.muli v643 c8_i32_789
  let c0_i32_787 : BitVec 32 := 0#32
  let v807 : BitVec 32 := Scalar.addi v2 c0_i32_787
  let c8_i32_788 : BitVec 32 := 8#32
  let v808 : BitVec 32 := Scalar.remsi v807 c8_i32_788
  let v810 : BitVec 32 := Scalar.addi v809 v808
  let c1_i32_793 : BitVec 32 := 1#32
  let v812 : BitVec 32 := Scalar.muli v810 c1_i32_793
  let v813 : BitVec 32 := Scalar.addi c0_i32_794 v812
  v813.toNat
def k0_dev48 (d0 : Dev nD) : Nat :=
  let c0_i32_805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_603 : BitVec 32 := 2#32
  let v642 : BitVec 32 := Scalar.addi v3 c2_i32_603
  let c4_i32_604 : BitVec 32 := 4#32
  let v643 : BitVec 32 := Scalar.remsi v642 c4_i32_604
  let c8_i32_800 : BitVec 32 := 8#32
  let v824 : BitVec 32 := Scalar.muli v643 c8_i32_800
  let c1_i32_798 : BitVec 32 := 1#32
  let v822 : BitVec 32 := Scalar.addi v2 c1_i32_798
  let c8_i32_799 : BitVec 32 := 8#32
  let v823 : BitVec 32 := Scalar.remsi v822 c8_i32_799
  let v825 : BitVec 32 := Scalar.addi v824 v823
  let c1_i32_804 : BitVec 32 := 1#32
  let v827 : BitVec 32 := Scalar.muli v825 c1_i32_804
  let v828 : BitVec 32 := Scalar.addi c0_i32_805 v827
  v828.toNat
def k0_dev49 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_603 : BitVec 32 := 2#32
  let v642 : BitVec 32 := Scalar.addi v3 c2_i32_603
  let c4_i32_604 : BitVec 32 := 4#32
  let v643 : BitVec 32 := Scalar.remsi v642 c4_i32_604
  let c8_i32_811 : BitVec 32 := 8#32
  let v839 : BitVec 32 := Scalar.muli v643 c8_i32_811
  let c2_i32_809 : BitVec 32 := 2#32
  let v837 : BitVec 32 := Scalar.addi v2 c2_i32_809
  let c8_i32_810 : BitVec 32 := 8#32
  let v838 : BitVec 32 := Scalar.remsi v837 c8_i32_810
  let v840 : BitVec 32 := Scalar.addi v839 v838
  let c1_i32_815 : BitVec 32 := 1#32
  let v842 : BitVec 32 := Scalar.muli v840 c1_i32_815
  let v843 : BitVec 32 := Scalar.addi c0_i32_816 v842
  v843.toNat
def k0_dev50 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_603 : BitVec 32 := 2#32
  let v642 : BitVec 32 := Scalar.addi v3 c2_i32_603
  let c4_i32_604 : BitVec 32 := 4#32
  let v643 : BitVec 32 := Scalar.remsi v642 c4_i32_604
  let c8_i32_822 : BitVec 32 := 8#32
  let v854 : BitVec 32 := Scalar.muli v643 c8_i32_822
  let c3_i32_820 : BitVec 32 := 3#32
  let v852 : BitVec 32 := Scalar.addi v2 c3_i32_820
  let c8_i32_821 : BitVec 32 := 8#32
  let v853 : BitVec 32 := Scalar.remsi v852 c8_i32_821
  let v855 : BitVec 32 := Scalar.addi v854 v853
  let c1_i32_826 : BitVec 32 := 1#32
  let v857 : BitVec 32 := Scalar.muli v855 c1_i32_826
  let v858 : BitVec 32 := Scalar.addi c0_i32_827 v857
  v858.toNat
def k0_dev51 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_603 : BitVec 32 := 2#32
  let v642 : BitVec 32 := Scalar.addi v3 c2_i32_603
  let c4_i32_604 : BitVec 32 := 4#32
  let v643 : BitVec 32 := Scalar.remsi v642 c4_i32_604
  let c8_i32_833 : BitVec 32 := 8#32
  let v869 : BitVec 32 := Scalar.muli v643 c8_i32_833
  let c4_i32_831 : BitVec 32 := 4#32
  let v867 : BitVec 32 := Scalar.addi v2 c4_i32_831
  let c8_i32_832 : BitVec 32 := 8#32
  let v868 : BitVec 32 := Scalar.remsi v867 c8_i32_832
  let v870 : BitVec 32 := Scalar.addi v869 v868
  let c1_i32_837 : BitVec 32 := 1#32
  let v872 : BitVec 32 := Scalar.muli v870 c1_i32_837
  let v873 : BitVec 32 := Scalar.addi c0_i32_838 v872
  v873.toNat
def k0_dev52 (d0 : Dev nD) : Nat :=
  let c0_i32_849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_603 : BitVec 32 := 2#32
  let v642 : BitVec 32 := Scalar.addi v3 c2_i32_603
  let c4_i32_604 : BitVec 32 := 4#32
  let v643 : BitVec 32 := Scalar.remsi v642 c4_i32_604
  let c8_i32_844 : BitVec 32 := 8#32
  let v884 : BitVec 32 := Scalar.muli v643 c8_i32_844
  let c5_i32_842 : BitVec 32 := 5#32
  let v882 : BitVec 32 := Scalar.addi v2 c5_i32_842
  let c8_i32_843 : BitVec 32 := 8#32
  let v883 : BitVec 32 := Scalar.remsi v882 c8_i32_843
  let v885 : BitVec 32 := Scalar.addi v884 v883
  let c1_i32_848 : BitVec 32 := 1#32
  let v887 : BitVec 32 := Scalar.muli v885 c1_i32_848
  let v888 : BitVec 32 := Scalar.addi c0_i32_849 v887
  v888.toNat
def k0_dev53 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_603 : BitVec 32 := 2#32
  let v642 : BitVec 32 := Scalar.addi v3 c2_i32_603
  let c4_i32_604 : BitVec 32 := 4#32
  let v643 : BitVec 32 := Scalar.remsi v642 c4_i32_604
  let c8_i32_855 : BitVec 32 := 8#32
  let v899 : BitVec 32 := Scalar.muli v643 c8_i32_855
  let c6_i32_853 : BitVec 32 := 6#32
  let v897 : BitVec 32 := Scalar.addi v2 c6_i32_853
  let c8_i32_854 : BitVec 32 := 8#32
  let v898 : BitVec 32 := Scalar.remsi v897 c8_i32_854
  let v900 : BitVec 32 := Scalar.addi v899 v898
  let c1_i32_859 : BitVec 32 := 1#32
  let v902 : BitVec 32 := Scalar.muli v900 c1_i32_859
  let v903 : BitVec 32 := Scalar.addi c0_i32_860 v902
  v903.toNat
def k0_dev54 (d0 : Dev nD) : Nat :=
  let c0_i32_871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_603 : BitVec 32 := 2#32
  let v642 : BitVec 32 := Scalar.addi v3 c2_i32_603
  let c4_i32_604 : BitVec 32 := 4#32
  let v643 : BitVec 32 := Scalar.remsi v642 c4_i32_604
  let c8_i32_866 : BitVec 32 := 8#32
  let v914 : BitVec 32 := Scalar.muli v643 c8_i32_866
  let c7_i32_864 : BitVec 32 := 7#32
  let v912 : BitVec 32 := Scalar.addi v2 c7_i32_864
  let c8_i32_865 : BitVec 32 := 8#32
  let v913 : BitVec 32 := Scalar.remsi v912 c8_i32_865
  let v915 : BitVec 32 := Scalar.addi v914 v913
  let c1_i32_870 : BitVec 32 := 1#32
  let v917 : BitVec 32 := Scalar.muli v915 c1_i32_870
  let v918 : BitVec 32 := Scalar.addi c0_i32_871 v917
  v918.toNat
def k0_dev55 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_875 : BitVec 32 := 3#32
  let v927 : BitVec 32 := Scalar.addi v3 c3_i32_875
  let c4_i32_876 : BitVec 32 := 4#32
  let v928 : BitVec 32 := Scalar.remsi v927 c4_i32_876
  let c8_i32_1035 : BitVec 32 := 8#32
  let v1072 : BitVec 32 := Scalar.muli v928 c8_i32_1035
  let c0_i32_1033 : BitVec 32 := 0#32
  let v1070 : BitVec 32 := Scalar.addi v2 c0_i32_1033
  let c8_i32_1034 : BitVec 32 := 8#32
  let v1071 : BitVec 32 := Scalar.remsi v1070 c8_i32_1034
  let v1073 : BitVec 32 := Scalar.addi v1072 v1071
  let c1_i32_1039 : BitVec 32 := 1#32
  let v1075 : BitVec 32 := Scalar.muli v1073 c1_i32_1039
  let v1076 : BitVec 32 := Scalar.addi c0_i32_1040 v1075
  v1076.toNat
def k0_dev56 (d0 : Dev nD) : Nat :=
  let c0_i32_1051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_875 : BitVec 32 := 3#32
  let v927 : BitVec 32 := Scalar.addi v3 c3_i32_875
  let c4_i32_876 : BitVec 32 := 4#32
  let v928 : BitVec 32 := Scalar.remsi v927 c4_i32_876
  let c8_i32_1046 : BitVec 32 := 8#32
  let v1087 : BitVec 32 := Scalar.muli v928 c8_i32_1046
  let c1_i32_1044 : BitVec 32 := 1#32
  let v1085 : BitVec 32 := Scalar.addi v2 c1_i32_1044
  let c8_i32_1045 : BitVec 32 := 8#32
  let v1086 : BitVec 32 := Scalar.remsi v1085 c8_i32_1045
  let v1088 : BitVec 32 := Scalar.addi v1087 v1086
  let c1_i32_1050 : BitVec 32 := 1#32
  let v1090 : BitVec 32 := Scalar.muli v1088 c1_i32_1050
  let v1091 : BitVec 32 := Scalar.addi c0_i32_1051 v1090
  v1091.toNat
def k0_dev57 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_875 : BitVec 32 := 3#32
  let v927 : BitVec 32 := Scalar.addi v3 c3_i32_875
  let c4_i32_876 : BitVec 32 := 4#32
  let v928 : BitVec 32 := Scalar.remsi v927 c4_i32_876
  let c8_i32_1057 : BitVec 32 := 8#32
  let v1102 : BitVec 32 := Scalar.muli v928 c8_i32_1057
  let c2_i32_1055 : BitVec 32 := 2#32
  let v1100 : BitVec 32 := Scalar.addi v2 c2_i32_1055
  let c8_i32_1056 : BitVec 32 := 8#32
  let v1101 : BitVec 32 := Scalar.remsi v1100 c8_i32_1056
  let v1103 : BitVec 32 := Scalar.addi v1102 v1101
  let c1_i32_1061 : BitVec 32 := 1#32
  let v1105 : BitVec 32 := Scalar.muli v1103 c1_i32_1061
  let v1106 : BitVec 32 := Scalar.addi c0_i32_1062 v1105
  v1106.toNat
def k0_dev58 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_875 : BitVec 32 := 3#32
  let v927 : BitVec 32 := Scalar.addi v3 c3_i32_875
  let c4_i32_876 : BitVec 32 := 4#32
  let v928 : BitVec 32 := Scalar.remsi v927 c4_i32_876
  let c8_i32_1068 : BitVec 32 := 8#32
  let v1117 : BitVec 32 := Scalar.muli v928 c8_i32_1068
  let c3_i32_1066 : BitVec 32 := 3#32
  let v1115 : BitVec 32 := Scalar.addi v2 c3_i32_1066
  let c8_i32_1067 : BitVec 32 := 8#32
  let v1116 : BitVec 32 := Scalar.remsi v1115 c8_i32_1067
  let v1118 : BitVec 32 := Scalar.addi v1117 v1116
  let c1_i32_1072 : BitVec 32 := 1#32
  let v1120 : BitVec 32 := Scalar.muli v1118 c1_i32_1072
  let v1121 : BitVec 32 := Scalar.addi c0_i32_1073 v1120
  v1121.toNat
def k0_dev59 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_875 : BitVec 32 := 3#32
  let v927 : BitVec 32 := Scalar.addi v3 c3_i32_875
  let c4_i32_876 : BitVec 32 := 4#32
  let v928 : BitVec 32 := Scalar.remsi v927 c4_i32_876
  let c8_i32_1079 : BitVec 32 := 8#32
  let v1132 : BitVec 32 := Scalar.muli v928 c8_i32_1079
  let c4_i32_1077 : BitVec 32 := 4#32
  let v1130 : BitVec 32 := Scalar.addi v2 c4_i32_1077
  let c8_i32_1078 : BitVec 32 := 8#32
  let v1131 : BitVec 32 := Scalar.remsi v1130 c8_i32_1078
  let v1133 : BitVec 32 := Scalar.addi v1132 v1131
  let c1_i32_1083 : BitVec 32 := 1#32
  let v1135 : BitVec 32 := Scalar.muli v1133 c1_i32_1083
  let v1136 : BitVec 32 := Scalar.addi c0_i32_1084 v1135
  v1136.toNat
def k0_dev60 (d0 : Dev nD) : Nat :=
  let c0_i32_1095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_875 : BitVec 32 := 3#32
  let v927 : BitVec 32 := Scalar.addi v3 c3_i32_875
  let c4_i32_876 : BitVec 32 := 4#32
  let v928 : BitVec 32 := Scalar.remsi v927 c4_i32_876
  let c8_i32_1090 : BitVec 32 := 8#32
  let v1147 : BitVec 32 := Scalar.muli v928 c8_i32_1090
  let c5_i32_1088 : BitVec 32 := 5#32
  let v1145 : BitVec 32 := Scalar.addi v2 c5_i32_1088
  let c8_i32_1089 : BitVec 32 := 8#32
  let v1146 : BitVec 32 := Scalar.remsi v1145 c8_i32_1089
  let v1148 : BitVec 32 := Scalar.addi v1147 v1146
  let c1_i32_1094 : BitVec 32 := 1#32
  let v1150 : BitVec 32 := Scalar.muli v1148 c1_i32_1094
  let v1151 : BitVec 32 := Scalar.addi c0_i32_1095 v1150
  v1151.toNat
def k0_dev61 (d0 : Dev nD) : Nat :=
  let c0_i32_1106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_875 : BitVec 32 := 3#32
  let v927 : BitVec 32 := Scalar.addi v3 c3_i32_875
  let c4_i32_876 : BitVec 32 := 4#32
  let v928 : BitVec 32 := Scalar.remsi v927 c4_i32_876
  let c8_i32_1101 : BitVec 32 := 8#32
  let v1162 : BitVec 32 := Scalar.muli v928 c8_i32_1101
  let c6_i32_1099 : BitVec 32 := 6#32
  let v1160 : BitVec 32 := Scalar.addi v2 c6_i32_1099
  let c8_i32_1100 : BitVec 32 := 8#32
  let v1161 : BitVec 32 := Scalar.remsi v1160 c8_i32_1100
  let v1163 : BitVec 32 := Scalar.addi v1162 v1161
  let c1_i32_1105 : BitVec 32 := 1#32
  let v1165 : BitVec 32 := Scalar.muli v1163 c1_i32_1105
  let v1166 : BitVec 32 := Scalar.addi c0_i32_1106 v1165
  v1166.toNat
def k0_dev62 (d0 : Dev nD) : Nat :=
  let c0_i32_1117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_875 : BitVec 32 := 3#32
  let v927 : BitVec 32 := Scalar.addi v3 c3_i32_875
  let c4_i32_876 : BitVec 32 := 4#32
  let v928 : BitVec 32 := Scalar.remsi v927 c4_i32_876
  let c8_i32_1112 : BitVec 32 := 8#32
  let v1177 : BitVec 32 := Scalar.muli v928 c8_i32_1112
  let c7_i32_1110 : BitVec 32 := 7#32
  let v1175 : BitVec 32 := Scalar.addi v2 c7_i32_1110
  let c8_i32_1111 : BitVec 32 := 8#32
  let v1176 : BitVec 32 := Scalar.remsi v1175 c8_i32_1111
  let v1178 : BitVec 32 := Scalar.addi v1177 v1176
  let c1_i32_1116 : BitVec 32 := 1#32
  let v1180 : BitVec 32 := Scalar.muli v1178 c1_i32_1116
  let v1181 : BitVec 32 := Scalar.addi c0_i32_1117 v1180
  v1181.toNat
def k0_off15 (d0 : Dev nD) (c1_i32_1121 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1190 : BitVec 32 := Scalar.addi v2 c1_i32_1121
  let c32_i32_1122 : BitVec 32 := 32#32
  let v1191 : BitVec 32 := Scalar.remsi v1190 c32_i32_1122
  ![v1191.toNat]
def k0_off16 (d0 : Dev nD) (c1_i32_1121 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1190 : BitVec 32 := Scalar.addi v2 c1_i32_1121
  let c32_i32_1122 : BitVec 32 := 32#32
  let v1191 : BitVec 32 := Scalar.remsi v1190 c32_i32_1122
  let c0_i32_1127 : BitVec 32 := 0#32
  let c0_i32_1128 : BitVec 32 := 0#32
  ![v1191.toNat, 0, 0]
abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Common.lean ====
/-
  The exchange, written down before any step of it is proved: who signals and who copies onto each semaphore, how much,
  in what order, and which contents each landing hands to the waiter.

  Device `c` numbers its outgoing blocks `k = 8 * t + j` (column group `t`, place `j` in the group), `k = 1 .. 31`; block `0`
  is its own. Block `k` goes to device `dest c k`, leaves from the piece `(c + j) % 8` of slot `t % 2` of the send buffer,
  and lands in slot `c` of the receive buffer there. Its send completion is counted on send semaphore `k % 16` and waited
  for in the order of the numbers, so wait number `k` is answered by block `k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.Pointwise
public import Idealize.SL.BI.BigOpNat

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's cells, this exchange's cells, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the copies a device makes within itself. -/
abbrev EC : UEmb Counters (MT nD τ sig Unit (Elt F) ℕ UU ℕ) := countersEmb (U := UU)

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who a device talks to -/

set_option backward.proofsInPublic true in
/-- The device `q` places after `c`. -/
def rot (c : Dev nD) (q : ℕ) : Dev nD := ⟨(c.val + q) % 32, Nat.mod_lt _ (by decide)⟩
set_option backward.proofsInPublic true in
/-- The device block `k` of `c` goes to. -/
def dest (c : Dev nD) (k : ℕ) : Dev nD :=
  ⟨(c.val / 8 + k / 8) % 4 * 8 + (c.val + k % 8) % 8, by
    have := Nat.mod_lt (c.val / 8 + k / 8) (show 0 < 4 by decide)
    have := Nat.mod_lt (c.val + k % 8) (show 0 < 8 by decide)
    show _ < 32
    omega⟩
/-- The round of its send semaphore that block `k` completes. -/
def rnd (k : ℕ) : ℕ := (k - 1) / 16
/-- The block that round `r` of send semaphore `sl` belongs to. -/
def blockNo (sl r : ℕ) : ℕ := if sl = 0 then 16 * (r + 1) else 16 * r + sl

/-! ## The cells -/

abbrev barCell (c : Dev nD) : GSem nD τ sig := ((c : Thread nD τ), .reg barrier0)
set_option backward.proofsInPublic true in
/-- The send semaphore block `k` completes on. -/
abbrev sendS (k : ℕ) : DmaSem sig := ⟨6 + k % 16, by have := Nat.mod_lt k (show 0 < 16 by decide); show _ < 54; omega⟩
set_option backward.proofsInPublic true in
/-- The receive semaphore of the block from `d`. -/
abbrev recvS (d : Dev nD) : DmaSem sig := ⟨22 + d.val, by have : d.val < 32 := d.isLt; show _ < 54; omega⟩
set_option backward.proofsInPublic true in
/-- The semaphore of the copy of half `h` of a weight block into slot `s`. -/
abbrev laneS (s h : Fin 2) : DmaSem sig := ⟨2 + 2 * s.val + h.val, by show _ < 54; omega⟩
abbrev sendCell (c : Dev nD) (k : ℕ) : GSem nD τ sig := ((c : Thread nD τ), .dma (sendS k))
abbrev recvCell (c d : Dev nD) : GSem nD τ sig := ((c : Thread nD τ), .dma (recvS d))

/-- The credit of one exchanged block. -/
abbrev N : ℕ := (cc0_scratch3 : Ref sig .tc).dmaCredit S256x128 .bf16
theorem N_pos : 0 < N := sig.dmaCredit_pos _ _ _ S256x128 .bf16 (by rw [show S256x128.numel = 32768 from rfl]; decide)

/-! ## The parts of the buffers -/

/-- Slot `d` of the receive buffer. -/
def slotSet (d : Dev nD) : Finset S32x256x128.Idx := Finset.univ.filter fun i => (i 0).val = d.val
/-- Slot `b` of the send buffer. -/
def ysSlot (b : ℕ) : Finset S2x256x1024.Idx := Finset.univ.filter fun i => (i 0).val = b
/-- Piece `r` of slot `b` of the send buffer. -/
def ysPiece (b r : ℕ) : Finset S2x256x1024.Idx := Finset.univ.filter fun i => (i 0).val = b ∧ (i 2).val / 128 = r
/-- Half `h` of slot `s` of the weight buffer. -/
def half (s h : Fin 2) : Finset S2x2048x1024.Idx := Finset.univ.filter fun i => (i 0).val = s.val ∧ (i 1).val / 1024 = h.val

/-! ## Contents -/

/-- The block of `x` staged on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- What the body stores of it. -/
def X (c : Dev nD) : Vec F S256x8192 .bf16 := k0_pay1 (xstg m ρ c)
/-- The weights on device `c`. -/
def Wm (c : Dev nD) : Vec F S8192x4096 .bf16 := m ((c : Thread nD τ).loc main_arg1)

set_option backward.proofsInPublic true in
/-- Columns `2048 * kk ..` of the stored block. -/
def xs (c : Dev nD) (kk : ℕ) : Vec F S256x2048 .bf16 :=
  fun i => X m ρ c (ix2 (i 0) (⟨(2048 * kk + (i 1).val) % 8192, Nat.mod_lt _ (by decide)⟩ : Fin 8192))
set_option backward.proofsInPublic true in
/-- Weight block `u` on device `c`, at rows and columns of the block. -/
def WBat (c : Dev nD) (u a b : ℕ) : Elt F .bf16 :=
  Wm m c (ix2 (⟨(2048 * (u % 4) + a) % 8192, Nat.mod_lt _ (by decide)⟩ : Fin 8192)
    (⟨(1024 * ((c.val / 8 + u / 4) % 4) + b) % 4096, Nat.mod_lt _ (by decide)⟩ : Fin 4096))
/-- The weight buffer holding weight block `u` (in either slot). -/
def WB (c : Dev nD) (u : ℕ) : Vec F S2x2048x1024 .bf16 := fun i => WBat m c u (i 1).val (i 2).val
/-- Weight block `u` as loaded. -/
def wb (c : Dev nD) (u : ℕ) : Vec F S1x2048x1024 .bf16 := fun i => WBat m c u (i 1).val (i 2).val
/-- The columns of group `t` of the product on device `c`, after the final maximum and rounding. -/
def yv (c : Dev nD) (t : ℕ) : Vec F S1x256x1024 .bf16 :=
  k0_pay6 (k0_pay4 (k0_pay3 (k0_pay2 (xs m ρ c 0) (wb m c (4 * t))) (xs m ρ c 1) (wb m c (4 * t + 1))) (xs m ρ c 2) (wb m c (4 * t + 2)))
    (k0_pay5 (xs m ρ c 3) (wb m c (4 * t + 3)))
/-- The send buffer holding group `t` (in either slot). -/
def YS (c : Dev nD) (t : ℕ) : Vec F S2x256x1024 .bf16 := fun i => yv m ρ c t (ix3 (0 : Fin 1) (i 1) (i 2))
set_option backward.proofsInPublic true in
/-- The receive buffer of device `c`, every slot filled. -/
def RB (c : Dev nD) : Vec F S32x256x128 .bf16 :=
  fun i => YS m ρ (i 0) ((c.val / 8 + 4 - (i 0).val / 8) % 4)
    (ix3 (0 : Fin 2) (i 1) (⟨(128 * (c.val % 8) + (i 2).val) % 1024, Nat.mod_lt _ (by decide)⟩ : Fin 1024))
/-- The result on device `c`. -/
def outAt (c : Dev nD) : (cc0_stg1_0 : Ref sig .tc).ty.Contents (Elt F) := k0_pay27 (RB m ρ c)

/-! ## What is handed over -/

/-- Slot `d` of device `c`'s receive buffer, whatever it holds. -/
def rawSlot (c d : Dev nD) : sProp 𝕄 := iprop(∃ f : Buf (Elt F) ((c : Thread nD τ).loc cc0_scratch3), ((c : Thread nD τ).loc cc0_scratch3) ↦[slotSet d]{fullShare} f)
/-- Slot `d` of device `c`'s receive buffer with the block from `d`. -/
def gotSlot (c d : Dev nD) : sProp 𝕄 := ((c : Thread nD τ).loc cc0_scratch3) ↦[slotSet d]{fullShare} (RB m ρ c)
/-- The piece of device `c`'s send buffer that block `k` leaves from. -/
def ysAt (c : Dev nD) (k : ℕ) : sProp 𝕄 :=
  ((c : Thread nD τ).loc cc0_scratch2) ↦[ysPiece (k / 8 % 2) ((c.val + k % 8) % 8)]{fullShare} (YS m ρ c (k / 8))

omit [FloatOps F] in
instance rawSlot_storable (c d : Dev nD) : BI.Storable (upEmb : UEmb _ 𝕄) (rawSlot (F := F) c d) := by unfold rawSlot; infer_instance
instance gotSlot_storable (c d : Dev nD) : BI.Storable (upEmb : UEmb _ 𝕄) (gotSlot m ρ c d) := by unfold gotSlot; infer_instance
instance ysAt_storable (c : Dev nD) (k : ℕ) : BI.Storable (upEmb : UEmb _ 𝕄) (ysAt m ρ c k) := by unfold ysAt; infer_instance

/-! ## The schedule -/

/-- The duties of round `r` of a device's semaphore. The barrier: one unit from every other device. A send semaphore: the
    device's own blocks, two of them except on semaphore `0`, which block `16` alone completes. A receive semaphore: the block
    of the device it belongs to (none on the device's own). -/
def dutiesOf (c : Dev nD) (sm : SemLoc sig) (r : ℕ) : Finset (Dev nD) :=
  match sm with
  | .reg _ => if r = 0 then Finset.univ.erase c else ∅
  | .dma s => if s.val < 6 then ∅
      else if s.val < 22 then (if r = 0 ∨ (r = 1 ∧ s.val ≠ 6) then {c} else ∅)
      else (if r = 0 then Finset.univ.filter (fun d => d.val = s.val - 22 ∧ d ≠ c) else ∅)

/-- What a duty on a device's semaphore hands to it. -/
def payOf (c : Dev nD) (sm : SemLoc sig) (r : ℕ) (d : Dev nD) : sProp 𝕄 :=
  match sm with
  | .reg _ => rawSlot d c
  | .dma s => if s.val < 22 then ysAt m ρ c (blockNo (s.val - 6) r) else gotSlot m ρ c d

/-- The units a duty on a semaphore counts. -/
def amtOf (sm : SemLoc sig) : ℕ :=
  match sm with
  | .reg _ => 1
  | .dma _ => N

def Rd : Rounds.Schedule (GSem nD τ sig) (Dev nD) 𝕄 where
  duties g r := dutiesOf g.1.1 g.2 r
  unitless _ := False
  amount g _ _ := amtOf g.2
  payload g r d := payOf m ρ g.1.1 g.2 r d
  amount_pos g _ _ _ := by
    unfold amtOf
    split
    · exact Nat.one_pos
    · exact N_pos

instance Rd_payload_storable (g : GSem nD τ sig) (r : ℕ) (d : Dev nD) :
    BI.Storable (upEmb : UEmb _ 𝕄) ((Rd (F := F) m ρ).payload g r d) := by
  show BI.Storable upEmb (payOf m ρ g.1.1 g.2 r d)
  unfold payOf
  (repeat' split) <;> infer_instance

section Sched
variable (c d : Dev nD) (k : ℕ)

theorem duties_bar : (Rd m ρ).duties (barCell c) 0 = Finset.univ.erase c := by
  show dutiesOf c (.reg barrier0) 0 = _
  unfold dutiesOf
  rw [if_pos rfl]
theorem duties_send (hk : 1 ≤ k) (hk' : k < 32) : (Rd m ρ).duties (sendCell c k) (rnd k) = {c} := by
  show dutiesOf c (.dma (sendS k)) (rnd k) = _
  unfold dutiesOf rnd sendS
  dsimp only
  rw [if_neg (by omega), if_pos (by omega), if_pos (by omega)]
theorem duties_recv (h : d ≠ c) : (Rd m ρ).duties (recvCell c d) 0 = {d} := by
  show dutiesOf c (.dma (recvS d)) 0 = _
  unfold dutiesOf recvS
  dsimp only
  rw [if_neg (by omega), if_neg (by omega), if_pos rfl]
  ext x
  rw [Finset.mem_filter, Finset.mem_singleton]
  constructor
  · rintro ⟨-, hx, -⟩; exact Fin.ext (by omega)
  · rintro rfl; exact ⟨Finset.mem_univ _, by omega, h⟩

theorem duties_bar_later (r : ℕ) (h : 1 ≤ r) : (Rd m ρ).duties (barCell c) r = ∅ := by
  show dutiesOf c (.reg barrier0) r = _
  exact if_neg (by omega)
theorem duties_recv_later (r : ℕ) (h : 1 ≤ r) : (Rd m ρ).duties (recvCell c d) r = ∅ := by
  show dutiesOf c (.dma (recvS d)) r = _
  unfold dutiesOf recvS
  dsimp only
  rw [if_neg (by omega), if_neg (by omega), if_neg (by omega)]
theorem duties_recv_own (r : ℕ) : (Rd m ρ).duties (recvCell c c) r = ∅ := by
  show dutiesOf c (.dma (recvS c)) r = _
  unfold dutiesOf recvS
  dsimp only
  rw [if_neg (by omega), if_neg (by omega)]
  split
  · refine Finset.filter_eq_empty_iff.mpr fun x _ hx => hx.2 (Fin.ext ?_)
    have := hx.1
    omega
  · rfl
/-- Past the last block of a send semaphore nothing is left. -/
theorem duties_send_later (r : ℕ) (h : 1 ≤ r) (h' : k % 16 = 0 ∨ 2 ≤ r) : (Rd m ρ).duties (sendCell c k) r = ∅ := by
  show dutiesOf c (.dma (sendS k)) r = _
  unfold dutiesOf sendS
  dsimp only
  rw [if_neg (by omega), if_pos (by omega), if_neg (by omega)]

theorem amount_bar (r : ℕ) : (Rd m ρ).amount (barCell c) r d = 1 := rfl
theorem amount_send (r : ℕ) : (Rd m ρ).amount (sendCell c k) r d = N := rfl
theorem amount_recv (r : ℕ) (e : Dev nD) : (Rd m ρ).amount (recvCell c d) r e = N := rfl

theorem expect_bar : (Rd m ρ).expect (barCell c) 0 = 31 := by
  unfold Schedule.expect Schedule.amountOf
  rw [duties_bar, Finset.sum_congr rfl fun e _ => amount_bar m ρ c e 0, Finset.sum_const, Finset.card_erase_of_mem (Finset.mem_univ c),
    Finset.card_univ, Fintype.card_fin, smul_eq_mul]
  rfl
theorem expect_send (hk : 1 ≤ k) (hk' : k < 32) : (Rd m ρ).expect (sendCell c k) (rnd k) = N := by
  unfold Schedule.expect Schedule.amountOf; rw [duties_send m ρ c k hk hk', Finset.sum_singleton, amount_send]
theorem expect_recv (h : d ≠ c) : (Rd m ρ).expect (recvCell c d) 0 = N := by
  unfold Schedule.expect Schedule.amountOf; rw [duties_recv m ρ c d h, Finset.sum_singleton, amount_recv]

theorem payload_bar (r : ℕ) : (Rd m ρ).payload (barCell c) r d = rawSlot d c := rfl
theorem payload_send (hk : 1 ≤ k) (hk' : k < 32) : (Rd m ρ).payload (sendCell c k) (rnd k) d = ysAt m ρ c k := by
  show payOf m ρ c (.dma (sendS k)) (rnd k) d = _
  unfold payOf sendS
  dsimp only
  rw [if_pos (by omega)]
  congr 1
  unfold blockNo rnd
  split <;> omega
theorem payload_recv (r : ℕ) (e : Dev nD) : (Rd m ρ).payload (recvCell c d) r e = gotSlot m ρ c e := by
  show payOf m ρ c (.dma (recvS d)) r e = _
  unfold payOf recvS
  dsimp only
  rw [if_neg (by omega)]

theorem rest_bar : bigSep ((Rd m ρ).duties (barCell c) 0 \ ∅) (fun e => (Rd m ρ).payload (barCell c) 0 e) = bigSep (Finset.univ.erase c) (fun e => rawSlot e c) := by
  rw [Finset.sdiff_empty, duties_bar]; rfl
theorem rest_send (hk : 1 ≤ k) (hk' : k < 32) :
    bigSep ((Rd m ρ).duties (sendCell c k) (rnd k) \ ∅) (fun e => (Rd m ρ).payload (sendCell c k) (rnd k) e) = ysAt m ρ c k := by
  rw [Finset.sdiff_empty, duties_send m ρ c k hk hk', bigSep_singleton, payload_send m ρ c c k hk hk']
theorem rest_recv (h : d ≠ c) :
    bigSep ((Rd m ρ).duties (recvCell c d) 0 \ ∅) (fun e => (Rd m ρ).payload (recvCell c d) 0 e) = gotSlot m ρ c d := by
  rw [Finset.sdiff_empty, duties_recv m ρ c d h, bigSep_singleton, payload_recv]

end Sched

/-! ## Arithmetic of the device numbers -/

theorem dest_ne (c : Dev nD) (k : ℕ) (hk : 1 ≤ k) (hk' : k < 32) : dest c k ≠ c := by
  intro h
  have h := congrArg Fin.val h
  have hc : c.val < 32 := c.isLt
  unfold dest at h
  dsimp only at h
  omega
theorem rot_ne (c : Dev nD) (q : ℕ) (hq : 1 ≤ q) (hq' : q < 32) : rot c q ≠ c := by
  intro h
  have h := congrArg Fin.val h
  have hc : c.val < 32 := c.isLt
  unfold rot at h
  dsimp only at h
  omega
theorem dest_inj (c : Dev nD) (k k' : ℕ) (hk : k < 32) (hk' : k' < 32) (h : dest c k = dest c k') : k = k' := by
  have h := congrArg Fin.val h
  have hc : c.val < 32 := c.isLt
  unfold dest at h
  dsimp only at h
  omega
theorem rot_inj (c : Dev nD) (k k' : ℕ) (hk : k < 32) (hk' : k' < 32) (h : rot c k = rot c k') : k = k' := by
  have h := congrArg Fin.val h
  have hc : c.val < 32 := c.isLt
  unfold rot at h
  dsimp only at h
  omega

/-! ## What a device owes, and the levels -/

/-- What device `c` still owes with signals `p ..` and blocks `n ..` ahead of it. -/
def owed (c : Dev nD) (p n : ℕ) : CellTallies nD τ sig Unit :=
  (∑ q ∈ Finset.Ico p 32, tallyAt (barCell (rot c q)) () 1) + ∑ k ∈ Finset.Ico n 32, tallyAt (recvCell (dest c k) c) () N

def L (g : GSem nD τ sig) : Finset Unit := if g.1.2 = .tc then {()} else ∅
/-- The barrier at 1, the receive semaphores at 2, everything else at 0. -/
def lev (sm : SemLoc sig) : ℕ :=
  match sm with
  | .reg _ => 1
  | .dma s => if s.val < 22 then 0 else 2
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl
theorem lev_recv (d : Dev nD) : lev (.dma (recvS d)) = 2 := if_neg (by show ¬ (22 + d.val < 22); omega)

theorem owed_signal (c : Dev nD) (p n : ℕ) (hp : p < 32) : owed c p n = owed c (p + 1) n + tallyAt (barCell (rot c p)) () 1 := by
  unfold owed
  rw [Finset.sum_eq_sum_Ico_succ_bot hp]
  abel
theorem owed_send (c : Dev nD) (p n : ℕ) (hn : n < 32) : owed c p n = owed c p (n + 1) + tallyAt (recvCell (dest c n) c) () N := by
  unfold owed
  rw [Finset.sum_eq_sum_Ico_succ_bot hn]
  abel
theorem owed_none (c : Dev nD) : owed c 32 32 = 0 := by
  unfold owed
  rw [Finset.Ico_self, Finset.sum_empty, Finset.sum_empty, add_zero]

theorem owed_pos {c : Dev nD} {p n : ℕ} {g : GSem nD τ sig} {u : Unit} (h : 0 < owed c p n g u) :
    (p < 32 ∧ ∃ q, g = barCell (rot c q)) ∨ ∃ k, g = recvCell (dest c k) c := by
  unfold owed at h
  rw [Pi.add_apply, Finsupp.add_apply, Finset.sum_apply, Finset.sum_apply, Finsupp.finset_sum_apply, Finsupp.finset_sum_apply] at h
  rcases Nat.eq_zero_or_pos (∑ q ∈ Finset.Ico p 32, (tallyAt (barCell (rot c q)) () 1 : CellTallies nD τ sig Unit) g u) with h0 | h0
  · rw [h0, zero_add] at h
    obtain ⟨k, -, hk⟩ := Finset.exists_ne_zero_of_sum_ne_zero (Nat.pos_iff_ne_zero.mp h)
    right
    refine ⟨k, ?_⟩
    rw [tallyAt_apply] at hk
    by_contra hn
    exact hk (if_neg fun h' => hn h'.1)
  · obtain ⟨q, hq, hk⟩ := Finset.exists_ne_zero_of_sum_ne_zero (Nat.pos_iff_ne_zero.mp h0)
    left
    refine ⟨lt_of_le_of_lt (Finset.mem_Ico.mp hq).1 (Finset.mem_Ico.mp hq).2, q, ?_⟩
    rw [tallyAt_apply] at hk
    by_contra hn
    exact hk (if_neg fun h' => hn h'.1)

omit [FloatOps F] in
/-- A device may wait on a semaphore below everything it still owes. -/
theorem mayWait (c : Dev nD) (sm : SemLoc sig) (p n : ℕ) (h : lev sm = 0 ∨ (32 ≤ p ∧ lev sm ≤ 1)) :
    (levAts L lv : sProp 𝕄) ⊢ MayWait (c : Thread nD τ) sm () (owed c p n) := by
  refine MayOwe.of_cut (L := L) (lev := lv) (lev sm) (fun x hx => by rw [Finset.mem_singleton.mp hx, L_tc]; exact Finset.mem_singleton_self _) ?_
    (fun x hx => by rw [Finset.mem_singleton.mp hx]; exact le_refl _) ?_
  · intro g u hg
    rcases owed_pos hg with ⟨-, q, rfl⟩ | ⟨k, rfl⟩ <;> exact Finset.mem_singleton_self _
  · intro g u hg
    rcases owed_pos hg with ⟨hp, q, rfl⟩ | ⟨k, rfl⟩
    · have h1 : lv (barCell (rot c q)) u = 1 := rfl
      rw [h1]
      omega
    · have h1 : lv (recvCell (dest c k) c) u = 2 := lev_recv c
      rw [h1]
      omega

omit [FloatOps F] in
/-- A device that owes nothing may wait on anything. -/
theorem mayWait_none (c : Dev nD) (sm : SemLoc sig) :
    (levAts L lv : sProp 𝕄) ⊢ MayWait (c : Thread nD τ) sm () (owed c 32 32) := by
  rw [owed_none, MayWait_zero]; iintro -; iempintro

end Cert.A2A

end
-- ==== Proof.Geom.lean ====
/-
  The parts of the buffers the copies, loads and stores name: which elements each covers, and what a landing there holds.
-/
module

public import proofs.«01_k».proof.Proof.Common

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs the copies name -/

section Refs
variable (off3 : Fin 3 → ℕ) (off2 : Fin 2 → ℕ)

/-- A slot of the receive buffer, as a block. -/
abbrev slotM (inb : ∀ a, off3 a + S1x256x128.size a ≤ S32x256x128.size a) : Memref sig .tc .vmem S256x128 .bf16 :=
  ((Memref.whole cc0_scratch3).slice (Rect.unit (s := S32x256x128) off3 S1x256x128.size inb) (fun _ => rfl)).squeeze S256x128 squeezes_S1x256x128_S256x128
/-- A piece of the send buffer, as a block. -/
abbrev pieceM (inb : ∀ a, off3 a + S1x256x128.size a ≤ S2x256x1024.size a) : Memref sig .tc .vmem S256x128 .bf16 :=
  ((Memref.whole cc0_scratch2).slice (Rect.unit (s := S2x256x1024) off3 S1x256x128.size inb) (fun _ => rfl)).squeeze S256x128 squeezes_S1x256x128_S256x128
/-- Half a slot of the weight buffer, as a matrix. -/
abbrev halfM (inb : ∀ a, off3 a + S1x1024x1024.size a ≤ S2x2048x1024.size a) : Memref sig .tc .vmem S1024x1024 .bf16 :=
  ((Memref.whole cc0_scratch1).slice (Rect.unit (s := S2x2048x1024) off3 S1x1024x1024.size inb) (fun _ => rfl)).squeeze S1024x1024 squeezes_S1x1024x1024_S1024x1024
/-- A block of the weights. -/
abbrev srcM (inb : ∀ a, off2 a + S1024x1024.size a ≤ S8192x4096.size a) : Memref sig .tc .hbm S1024x1024 .bf16 :=
  (Memref.whole main_arg1).slice (Rect.unit (s := S8192x4096) off2 S1024x1024.size inb) (fun _ => rfl)
end Refs

/-! ## Their elements -/

theorem slot_rect (off : Fin 3 → ℕ) (inb) (d : Dev nD) (h : off = ![d.val, 0, 0]) :
    (Rect.unit (s := S32x256x128) off S1x256x128.size inb).set = slotSet d := by
  subst h
  ext i
  rw [Rect.mem_set_unit, slotSet, Finset.mem_filter]
  have h1 : (i 1).val < 256 := (i 1).isLt
  have h2 : (i 2).val < 128 := (i 2).isLt
  constructor
  · intro h
    have h0 : d.val ≤ (i 0).val ∧ (i 0).val < d.val + 1 := h 0
    exact ⟨Finset.mem_univ _, by omega⟩
  · rintro ⟨-, h⟩ a
    fin_cases a
    · show d.val ≤ (i 0).val ∧ (i 0).val < d.val + 1; omega
    · show 0 ≤ (i 1).val ∧ (i 1).val < 0 + 256; omega
    · show 0 ≤ (i 2).val ∧ (i 2).val < 0 + 128; omega

theorem piece_rect (off : Fin 3 → ℕ) (inb) (b r : ℕ) (h : off = ![b, 0, 128 * r]) :
    (Rect.unit (s := S2x256x1024) off S1x256x128.size inb).set = ysPiece b r := by
  subst h
  ext i
  rw [Rect.mem_set_unit, ysPiece, Finset.mem_filter]
  have h1 : (i 1).val < 256 := (i 1).isLt
  constructor
  · intro h
    have h0 : b ≤ (i 0).val ∧ (i 0).val < b + 1 := h 0
    have h2 : 128 * r ≤ (i 2).val ∧ (i 2).val < 128 * r + 128 := h 2
    exact ⟨Finset.mem_univ _, by omega, by omega⟩
  · rintro ⟨-, h, h'⟩ a
    fin_cases a
    · show b ≤ (i 0).val ∧ (i 0).val < b + 1; omega
    · show 0 ≤ (i 1).val ∧ (i 1).val < 0 + 256; omega
    · show 128 * r ≤ (i 2).val ∧ (i 2).val < 128 * r + 128; omega

theorem ysSlot_rect (off : Fin 3 → ℕ) (inb) (b : ℕ) (h : off = ![b, 0, 0]) :
    (Rect.unit (s := S2x256x1024) off S1x256x1024.size inb).set = ysSlot b := by
  subst h
  ext i
  rw [Rect.mem_set_unit, ysSlot, Finset.mem_filter]
  have h1 : (i 1).val < 256 := (i 1).isLt
  have h2 : (i 2).val < 1024 := (i 2).isLt
  constructor
  · intro h
    have h0 : b ≤ (i 0).val ∧ (i 0).val < b + 1 := h 0
    exact ⟨Finset.mem_univ _, by omega⟩
  · rintro ⟨-, h⟩ a
    fin_cases a
    · show b ≤ (i 0).val ∧ (i 0).val < b + 1; omega
    · show 0 ≤ (i 1).val ∧ (i 1).val < 0 + 256; omega
    · show 0 ≤ (i 2).val ∧ (i 2).val < 0 + 1024; omega

theorem half_rect (off : Fin 3 → ℕ) (inb) (s h : Fin 2) (hoff : off = ![s.val, 1024 * h.val, 0]) :
    (Rect.unit (s := S2x2048x1024) off S1x1024x1024.size inb).set = half s h := by
  subst hoff
  ext i
  rw [Rect.mem_set_unit, half, Finset.mem_filter]
  have h2 : (i 2).val < 1024 := (i 2).isLt
  constructor
  · intro h'
    have h0 : s.val ≤ (i 0).val ∧ (i 0).val < s.val + 1 := h' 0
    have h1 : 1024 * h.val ≤ (i 1).val ∧ (i 1).val < 1024 * h.val + 1024 := h' 1
    exact ⟨Finset.mem_univ _, by omega, by omega⟩
  · rintro ⟨-, h0, h1⟩ a
    fin_cases a
    · show s.val ≤ (i 0).val ∧ (i 0).val < s.val + 1; omega
    · show 1024 * h.val ≤ (i 1).val ∧ (i 1).val < 1024 * h.val + 1024; omega
    · show 0 ≤ (i 2).val ∧ (i 2).val < 0 + 1024; omega

theorem slotM_set (off : Fin 3 → ℕ) (inb) (d : Dev nD) (h : off = ![d.val, 0, 0]) : (slotM off inb).view.set = slotSet d := by
  rw [← slot_rect off inb d h]
  show ((((View.whole cc0_scratch3).slice (Rect.unit (s := S32x256x128) off S1x256x128.size inb)).reshape S256x128 _).set) = _
  rw [View.set_reshape]
  exact View.set_slice_whole _ _
theorem pieceM_set (off : Fin 3 → ℕ) (inb) (b r : ℕ) (h : off = ![b, 0, 128 * r]) : (pieceM off inb).view.set = ysPiece b r := by
  rw [← piece_rect off inb b r h]
  show ((((View.whole cc0_scratch2).slice (Rect.unit (s := S2x256x1024) off S1x256x128.size inb)).reshape S256x128 _).set) = _
  rw [View.set_reshape]
  exact View.set_slice_whole _ _
theorem halfM_set (off : Fin 3 → ℕ) (inb) (s h : Fin 2) (hoff : off = ![s.val, 1024 * h.val, 0]) : (halfM off inb).view.set = half s h := by
  rw [← half_rect off inb s h hoff]
  show ((((View.whole cc0_scratch1).slice (Rect.unit (s := S2x2048x1024) off S1x1024x1024.size inb)).reshape S1024x1024 _).set) = _
  rw [View.set_reshape]
  exact View.set_slice_whole _ _

/-! ## Contents -/

/-- Rewriting a view's elements by `w` leaves `f` there when `w` is `f` through the view. -/
theorem write_agree {sp : Space} {s : Shape} {e : EltTy} (v : View sig .tc sp s e) (fd f : v.ty.Contents (Elt F)) (w : s.Idx → Elt F e)
    (h : ∀ x, _root_.cast (congrArg (Elt F) v.elt_eq.symm) (w x) = f (v.emb x)) : ∀ i ∈ v.set, v.write (Elt F) fd w Finset.univ i = f i := by
  intro i hi
  obtain ⟨x, -, rfl⟩ := Finset.mem_map.mp hi
  rw [View.write_emb_of_mem _ _ (Finset.mem_univ x), h]

theorem reshape_block (h : S256x128.numel = S1x256x128.numel) (x : S256x128.Idx) :
    Shape.reshapeEquiv h x = (ix3 (0 : Fin 1) (x 0) (x 1) : S1x256x128.Idx) := by
  rw [eq_ix2 x]
  simp only [pointwise]
theorem reshape_half (h : S1024x1024.numel = S1x1024x1024.numel) (x : S1024x1024.Idx) :
    Shape.reshapeEquiv h x = (ix3 (0 : Fin 1) (x 0) (x 1) : S1x1024x1024.Idx) := by
  rw [eq_ix2 x]
  simp only [pointwise]

variable (m : (ℓ : Loc nD τ sig) → Buf (Elt F) ℓ) (ρ : Dev nD → PrngReg)

/-- Block `k` of `c`, landed in slot `c` of its receiver. -/
theorem land_block (offs offd : Fin 3 → ℕ) (inbs inbd) (c : Dev nD) (k : ℕ) (hk : k < 32)
    (hs : offs = ![k / 8 % 2, 0, 128 * ((c.val + k % 8) % 8)]) (hd : offd = ![c.val, 0, 0])
    (fd : (slotM offd inbd).view.ty.Contents (Elt F)) :
    ∀ i ∈ (slotM offd inbd).view.set,
      (slotM offd inbd).view.write (Elt F) fd ((pieceM offs inbs).view.read (Elt F) (YS m ρ c (k / 8))) Finset.univ i = RB m ρ (dest c k) i := by
  subst hs hd
  refine write_agree _ _ _ _ fun x => ?_
  rw [View.read_apply]
  show YS m ρ c (k / 8) ((Rect.unit (s := S2x256x1024) _ S1x256x128.size inbs).emb (Shape.reshapeEquiv _ x))
    = RB m ρ (dest c k) ((Rect.unit (s := S32x256x128) _ S1x256x128.size inbd).emb (Shape.reshapeEquiv _ x))
  rw [reshape_block]
  have hx0 : (x 0).val < 256 := (x 0).isLt
  have hx1 : (x 1).val < 128 := (x 1).isLt
  have hc : c.val < 32 := c.isLt
  unfold RB YS
  have e0 : ((Rect.unit (s := S32x256x128) ![c.val, 0, 0] S1x256x128.size inbd).emb (ix3 (0 : Fin 1) (x 0) (x 1)) 0 : Fin 32) = c := by
    apply Fin.ext
    rw [Rect.emb_apply]
    show c.val + 1 * 0 = c.val
    omega
  have ed : (dest c k).val / 8 = (c.val / 8 + k / 8) % 4 ∧ (dest c k).val % 8 = (c.val + k % 8) % 8 := by
    unfold dest; dsimp only; omega
  rw [show (((Rect.unit (s := S32x256x128) ![c.val, 0, 0] S1x256x128.size inbd).emb (ix3 (0 : Fin 1) (x 0) (x 1)) 0 : Fin 32) : Dev nD) = c from e0,
    show ((dest c k).val / 8 + 4 - c.val / 8) % 4 = k / 8 by rw [ed.1]; omega]
  congr 1
  funext a
  fin_cases a
  · rfl
  · apply Fin.ext
    show (((Rect.unit (s := S2x256x1024) _ S1x256x128.size inbs).emb (ix3 (0 : Fin 1) (x 0) (x 1)) 1 : Fin 256) : ℕ)
      = (((Rect.unit (s := S32x256x128) _ S1x256x128.size inbd).emb (ix3 (0 : Fin 1) (x 0) (x 1)) 1 : Fin 256) : ℕ)
    rw [Rect.emb_apply, Rect.emb_apply]
    rfl
  · apply Fin.ext
    show (((Rect.unit (s := S2x256x1024) _ S1x256x128.size inbs).emb (ix3 (0 : Fin 1) (x 0) (x 1)) 2 : Fin 1024) : ℕ)
      = (128 * ((dest c k).val % 8) + (((Rect.unit (s := S32x256x128) _ S1x256x128.size inbd).emb (ix3 (0 : Fin 1) (x 0) (x 1)) 2 : Fin 128) : ℕ)) % 1024
    rw [Rect.emb_apply, Rect.emb_apply, ed.2]
    show 128 * ((c.val + k % 8) % 8) + 1 * (x 1).val = (128 * ((c.val + k % 8) % 8) + (0 + 1 * (x 1).val)) % 1024
    omega

/-- Half `h` of weight block `u`, landed in its half of slot `s`. -/
theorem land_half (offs : Fin 2 → ℕ) (offd : Fin 3 → ℕ) (inbs inbd) (c : Dev nD) (s h : Fin 2) (u : ℕ)
    (hs : offs = ![2048 * (u % 4) + 1024 * h.val, 1024 * ((c.val / 8 + u / 4) % 4)]) (hd : offd = ![s.val, 1024 * h.val, 0])
    (fd : (halfM offd inbd).view.ty.Contents (Elt F)) :
    ∀ i ∈ (halfM offd inbd).view.set,
      (halfM offd inbd).view.write (Elt F) fd ((ReadAs.same : ReadAs (Elt F) S1024x1024 .bf16 S1024x1024 .bf16).apply ((srcM offs inbs).view.read (Elt F) (Wm m c))) Finset.univ i = WB m c u i := by
  subst hs hd
  refine write_agree _ _ _ _ fun x => ?_
  show Wm m c ((Rect.unit (s := S8192x4096) _ S1024x1024.size inbs).emb x)
    = WB m c u ((Rect.unit (s := S2x2048x1024) _ S1x1024x1024.size inbd).emb (Shape.reshapeEquiv _ x))
  rw [reshape_half]
  have hx0 : (x 0).val < 1024 := (x 0).isLt
  have hx1 : (x 1).val < 1024 := (x 1).isLt
  unfold WB WBat
  congr 1
  funext a
  fin_cases a
  · apply Fin.ext
    show (((Rect.unit (s := S8192x4096) _ S1024x1024.size inbs).emb x 0 : Fin 8192) : ℕ)
      = (2048 * (u % 4) + (((Rect.unit (s := S2x2048x1024) _ S1x1024x1024.size inbd).emb (ix3 (0 : Fin 1) (x 0) (x 1)) 1 : Fin 2048) : ℕ)) % 8192
    rw [Rect.emb_apply, Rect.emb_apply]
    show 2048 * (u % 4) + 1024 * h.val + 1 * (x 0).val = (2048 * (u % 4) + (1024 * h.val + 1 * (x 0).val)) % 8192
    omega
  · apply Fin.ext
    show (((Rect.unit (s := S8192x4096) _ S1024x1024.size inbs).emb x 1 : Fin 4096) : ℕ)
      = (1024 * ((c.val / 8 + u / 4) % 4) + (((Rect.unit (s := S2x2048x1024) _ S1x1024x1024.size inbd).emb (ix3 (0 : Fin 1) (x 0) (x 1)) 2 : Fin 1024) : ℕ)) % 4096
    rw [Rect.emb_apply, Rect.emb_apply]
    show 1024 * ((c.val / 8 + u / 4) % 4) + 1 * (x 1).val = (1024 * ((c.val / 8 + u / 4) % 4) + (0 + 1 * (x 1).val)) % 4096
    omega

end Cert.A2A

end
-- ==== Proof.Comps.lean ====
/-
  What a device holds between two steps of the body, cut into parts that single steps change: what it owes, its signals
  still to send, its blocks still to send and those on their way, the four copy lanes of the weights, its arrivals.
-/
module

public import proofs.«01_k».proof.Proof.Geom

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The body's weakest precondition on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells in a row, and the records every step may use -/

set_option backward.proofsInPublic true in
/-- A device's cells of the exchange: the barrier, the sixteen send semaphores, the thirty-two receive semaphores. -/
def csem (i : Fin 49) : SemLoc sig := if i.val = 0 then .reg barrier0 else .dma ⟨i.val + 5, by show _ < 54; omega⟩
abbrev kcell (ck : Dev nD × Fin 49) : GSem nD τ sig := ((ck.1 : Thread nD τ), csem ck.2)
set_option backward.proofsInPublic true in
def sendIx (k : ℕ) : Fin 49 := ⟨1 + k % 16, by have := Nat.mod_lt k (show 0 < 16 by decide); omega⟩
set_option backward.proofsInPublic true in
def recvIx (d : Dev nD) : Fin 49 := ⟨17 + d.val, by have : d.val < 32 := d.isLt; omega⟩

theorem kcell_bar (c : Dev nD) : kcell (c, 0) = barCell c := rfl
theorem kcell_send (c : Dev nD) (k : ℕ) : kcell (c, sendIx k) = sendCell c k := by
  refine Prod.ext rfl ?_
  show csem (sendIx k) = .dma (sendS k)
  unfold csem sendIx sendS
  rw [if_neg (by dsimp only; omega)]
  congr 1
  apply Fin.ext
  show 1 + k % 16 + 5 = 6 + k % 16
  omega
theorem kcell_recv (c d : Dev nD) : kcell (c, recvIx d) = recvCell c d := by
  refine Prod.ext rfl ?_
  show csem (recvIx d) = .dma (recvS d)
  unfold csem recvIx recvS
  rw [if_neg (by dsimp only; omega)]
  congr 1
  apply Fin.ext
  show 17 + d.val + 5 = 22 + d.val
  omega

variable (K : Dev nD × Fin 49 → ℕ)

/-- Every cell's invariant, every cell's start, and the levels. -/
def Recs : sProp 𝕄 :=
  iprop(bigSep Finset.univ (fun ck : Dev nD × Fin 49 => iprop(cellInv ER (Rd m ρ) (K ck) (kcell ck) ∗ reached ER (kcell ck) 0)) ∗ levAts L lv)

instance Recs_persistent : BI.Persistent (Recs m ρ K) := by unfold Recs; infer_instance

theorem recs_lev : Recs m ρ K ⊢ levAts L lv := by
  unfold Recs; iintro ⟨-, H⟩; iexact H
theorem recs_cell (ck : Dev nD × Fin 49) : Recs m ρ K ⊢ iprop(cellInv ER (Rd m ρ) (K ck) (kcell ck) ∗ reached ER (kcell ck) 0) := by
  unfold Recs
  exact sep_elim_left.trans (bigSep_elim (Φ := fun ck : Dev nD × Fin 49 => iprop(cellInv ER (Rd m ρ) (K ck) (kcell ck) ∗ reached ER (kcell ck) 0)) (Finset.mem_univ ck))
theorem recs_bar (c : Dev nD) : Recs m ρ K ⊢ iprop(cellInv ER (Rd m ρ) (K (c, 0)) (barCell c) ∗ reached ER (barCell c) 0) := recs_cell m ρ K (c, 0)
theorem recs_send (c : Dev nD) (k : ℕ) :
    Recs m ρ K ⊢ iprop(cellInv ER (Rd m ρ) (K (c, sendIx k)) (sendCell c k) ∗ reached ER (sendCell c k) 0) := by
  rw [← kcell_send]; exact recs_cell m ρ K (c, sendIx k)
theorem recs_recv (c d : Dev nD) :
    Recs m ρ K ⊢ iprop(cellInv ER (Rd m ρ) (K (c, recvIx d)) (recvCell c d) ∗ reached ER (recvCell c d) 0) := by
  rw [← kcell_recv]; exact recs_cell m ρ K (c, recvIx d)

/-! ## The parts -/

/-- What device `c` owes, with signals `p ..` and blocks `n ..` ahead. -/
def Owe (c : Dev nD) (p n : ℕ) : sProp 𝕄 := iprop(∃ W, owes (c : Thread nD τ) (owed c p n) W)

/-- One signal ahead: its right to pay, and the slot it hands over. -/
def sigAt (c : Dev nD) (q : ℕ) : sProp 𝕄 := iprop(dutyTok ER (barCell (rot c q)) 0 c ∗ rawSlot c (rot c q))
/-- Signals `p ..` ahead. -/
def Sig (c : Dev nD) (p : ℕ) : sProp 𝕄 := bigSep (Finset.Ico p 32) (sigAt c)

/-- Block `k`'s two rights to pay. -/
def tokAt (c : Dev nD) (k : ℕ) : sProp 𝕄 := iprop(dutyTok ER (recvCell (dest c k) c) 0 c ∗ dutyTok ER (sendCell c k) (rnd k) c)
/-- Where it lands, and its two rights to pay. -/
def sndAt (c : Dev nD) (k : ℕ) : sProp 𝕄 := iprop(rawSlot (dest c k) c ∗ tokAt c k)
/-- The barrier, before the wait. -/
def Bar0 (c : Dev nD) : sProp 𝕄 :=
  iprop(cred (tallyAt (barCell c) () 31) ∗ atPos ER (barCell c) 0 ∅ 0 ∗ bigSep (Finset.Ico 1 32) (tokAt c))
/-- Blocks `n ..` ahead. -/
def Snd (c : Dev nD) (n : ℕ) : sProp 𝕄 := bigSep (Finset.Ico n 32) (sndAt c)

/-- A send semaphore standing before the wait for block `k`. -/
def posAt (c : Dev nD) (k : ℕ) : sProp 𝕄 := iprop(atPos ER (sendCell c k) (rnd k) ∅ 0 ∗ reached ER (sendCell c k) (rnd k))
/-- The right to wait for block `k`. -/
def pendAt (c : Dev nD) (k : ℕ) : sProp 𝕄 := cred (tallyAt (sendCell c k) () N)
/-- The exchange of device `c`: waits `w ..` and blocks `n ..` ahead, the pieces of blocks `n .. hi` filled, those of
    blocks `lo .. w` back. -/
def Ex (c : Dev nD) (w n lo hi : ℕ) : sProp 𝕄 :=
  iprop(Snd c n ∗ bigSep (Finset.Ico w (w + 16)) (posAt c) ∗ bigSep (Finset.Ico w n) (pendAt c)
    ∗ bigSep (Finset.Ico n hi) (ysAt m ρ c) ∗ bigSep (Finset.Ico lo w) (ysAt m ρ c))
/-- Slot `b` of the send buffer, whatever it holds. -/
def RawY (c : Dev nD) (b : ℕ) : sProp 𝕄 :=
  iprop(∃ f : Buf (Elt F) ((c : Thread nD τ).loc cc0_scratch2), ((c : Thread nD τ).loc cc0_scratch2) ↦[ysSlot b]{fullShare} f)

/-- The credit of half a weight block. -/
abbrev NW : ℕ := (cc0_scratch1 : Ref sig .tc).dmaCredit S1024x1024 .bf16
theorem NW_pos : 0 < NW := sig.dmaCredit_pos _ _ _ S1024x1024 .bf16 (by rw [show S1024x1024.numel = 1048576 from rfl]; decide)

/-- The share of the weights lane `(s, h)` reads with. -/
def laneShare (s h : Fin 2) : PosShare TreeShare := Transfers.shareTok fullShare 4 ⟨2 * s.val + h.val, by omega⟩
abbrev laneSem (s h : Fin 2) : SemLoc sig := .dma (laneS s h)
/-- The lane's share of the weights. -/
def laneW (c : Dev nD) (s h : Fin 2) : sProp 𝕄 := ((c : Thread nD τ).loc main_arg1) ↦{laneShare s h} (Wm m c)
/-- Lane `(s, h)` at rest, its half of the weight buffer holding anything. -/
def LRaw (c : Dev nD) (s h : Fin 2) : sProp 𝕄 :=
  iprop(semVal ((c : Thread nD τ), laneSem s h) 0
    ∗ (∃ f : Buf (Elt F) ((c : Thread nD τ).loc cc0_scratch1), ((c : Thread nD τ).loc cc0_scratch1) ↦[half s h]{fullShare} f) ∗ laneW m c s h)
/-- The copy of weight block `u`'s half under way. -/
def LFly (c : Dev nD) (s h : Fin 2) (u : ℕ) : sProp 𝕄 :=
  iprop(∃ S : Finset S8192x4096.Idx,
    Transfers.Flight EC (c : Thread nD τ) (laneSem s h) () NW
        iprop((((c : Thread nD τ).loc cc0_scratch1) ↦[half s h]{fullShare} (WB m c u)) ∗ ((c : Thread nD τ).loc main_arg1) ↦[S]{laneShare s h} (Wm m c))
      ∗ ((c : Thread nD τ).loc main_arg1) ↦[Finset.univ \ S]{laneShare s h} (Wm m c))
/-- The lane at rest, its half of the weight buffer holding weight block `u`'s. -/
def LGot (c : Dev nD) (s h : Fin 2) (u : ℕ) : sProp 𝕄 :=
  iprop(semVal ((c : Thread nD τ), laneSem s h) 0 ∗ (((c : Thread nD τ).loc cc0_scratch1) ↦[half s h]{fullShare} (WB m c u)) ∗ laneW m c s h)

theorem LGot_raw (c : Dev nD) (s h : Fin 2) (u : ℕ) : LGot m c s h u ⊢ LRaw m c s h := by
  unfold LGot LRaw
  iintro ⟨H1, H2, H3⟩
  isplitl [H1]; · iexact H1
  isplitl [H2]; · iexists _; iexact H2
  iexact H3

/-- The stored block of `x`. -/
def XS (c : Dev nD) : sProp 𝕄 := ((c : Thread nD τ).loc cc0_scratch0) ↦{fullShare} (X m ρ c)

/-- An arrival ahead. -/
def rcvAt (c : Dev nD) (q : ℕ) : sProp 𝕄 := iprop(atPos ER (recvCell c (rot c q)) 0 ∅ 0 ∗ cred (tallyAt (recvCell c (rot c q)) () N))
/-- An arrival waited for. -/
def rcvdAt (c : Dev nD) (q : ℕ) : sProp 𝕄 := iprop(atPos ER (recvCell c (rot c q)) 1 ∅ 0 ∗ gotSlot m ρ c (rot c q))
/-- Arrivals `o ..` ahead, those before it here. -/
def Rcv (c : Dev nD) (o : ℕ) : sProp 𝕄 := iprop(bigSep (Finset.Ico o 32) (rcvAt c) ∗ bigSep (Finset.Ico 1 o) (rcvdAt m ρ c))

end Cert.A2A

end
-- ==== Proof.Steps.lean ====
/-
  One lemma for each kind of step of the exchange: a signal, the barrier's wait, a block sent, a wait for a block to have
  left, a wait for a block to arrive, a copy of weights started, a wait for it.
-/
module

public import proofs.«01_k».proof.Proof.Comps

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

theorem sig_split (p : ℕ) (hp : p < 32) : Sig c p ⊢ iprop(sigAt (F := F) c p ∗ Sig c (p + 1)) := Entails.of_eq (bigSep_Ico_succ_bot hp _)
theorem snd_split (n : ℕ) (hn : n < 32) : Snd c n ⊢ iprop(sndAt (F := F) c n ∗ Snd c (n + 1)) := Entails.of_eq (bigSep_Ico_succ_bot hn _)

/-- Signal `p`: the slot for device `rot c p`'s block handed to it. -/
theorem step_signal (p n : ℕ) (hp : 1 ≤ p) (hp' : p < 32) {d : Dev nD} (hd : d = rot c p) {sem : Sem sig} (hs : sem = barrier0) {a : ℤ} (ha : a = 1)
    {α : Type} {Q : α → sProp 𝕄} {k : PUnit → Prog (TpuEff nD τ sig (Elt F) Λ₀ .tc) α} :
    iprop(Recs m ρ K ∗ Owe c p n ∗ Sig c p)
      ⊢ iprop(((Owe c (p + 1) n ∗ Sig c (p + 1)) -∗ WP c (k ⟨⟩) Q) -∗ WP c (.op (.semSignal (d : Thread nD τ) sem a) k) Q) := by
  subst hd hs ha
  iintro ⟨#HR, HO, HS⟩ Hk
  unfold Owe
  ihave HS := (sig_split (F := F) c p hp') $$ HS
  icases HO with ⟨%W, HO⟩
  icases HS with ⟨HS, HSr⟩
  unfold sigAt
  icases HS with ⟨HT, Hslot⟩
  ihave Hc := (recs_bar m ρ K (rot c p)) $$ HR
  icases Hc with ⟨HI, Hr⟩
  iapply (Rounds.wp_signal 𝒱₀ ER (Rd m ρ) (c : Thread nD τ) none (dst := (rot c p : Thread nD τ)) (κ := K (rot c p, 0))
      (d := c) (by rw [duties_bar]; exact Finset.mem_erase.mpr ⟨(rot_ne c p hp hp').symm, Finset.mem_univ _⟩) (amount_bar m ρ (rot c p) c 0) () (owed c (p + 1) n)
      (owed_signal c p n hp')) $$ [HO HT Hslot HI Hr]
  · isplitl [HI]; · iexact HI
    isplitl [HO]; · iexact HO
    isplitl [HT]; · iexact HT
    isplitl [Hslot]; · rw [payload_bar]; iexact Hslot
    iexact Hr
  iintro HO
  iapply Hk
  isplitl [HO]; · iexists W; iexact HO
  iexact HSr

/-- The devices a device hears from at the barrier are those its blocks go to. -/
theorem erase_eq_dest : Finset.univ.erase c = (Finset.Ico 1 32).image (dest c) := by
  revert c; decide +kernel

/-- The slots handed over at the barrier, in the order of the blocks they are for. -/
theorem snd_intro :
    iprop(bigSep (Finset.univ.erase c) (fun e => rawSlot (F := F) e c) ∗ bigSep (Finset.Ico 1 32) (tokAt c)) ⊢ Snd c 1 := by
  rw [erase_eq_dest, bigSep_image_of_injOn fun a ha b hb h =>
    dest_inj c a b (Finset.mem_Ico.mp ha).2 (Finset.mem_Ico.mp hb).2 h]
  exact Entails.of_eq (bigSep_sep _ _ _).symm

/-- The barrier's wait: every other device's slot for this one's block. -/
theorem step_bar (n : ℕ) {sem : Sem sig} (hs : sem = barrier0) {a : ℤ} (ha : a = 31)
    {α : Type} {Q : α → sProp 𝕄} {k : PUnit → Prog (TpuEff nD τ sig (Elt F) Λ₀ .tc) α} :
    iprop(Recs m ρ K ∗ Owe c 32 n ∗ Bar0 c)
      ⊢ iprop(((Owe c 32 n ∗ atPos ER (barCell c) 1 ∅ 0 ∗ Snd c 1) -∗ WP c (k ⟨⟩) Q) -∗ WP c (.op (.semWait sem a) k) Q) := by
  subst hs ha
  iintro ⟨#HR, HO, HB⟩ Hk
  unfold Owe Bar0
  icases HO with ⟨%W, HO⟩
  icases HB with ⟨Hc, Hp, HT⟩
  ihave Hi := (recs_bar m ρ K c) $$ HR
  icases Hi with ⟨HI, -⟩
  iapply (Rounds.wp_wait_rest_token 𝒱₀ ER (Rd m ρ) (c : Thread nD τ) none (κ := K (c, 0))
      (wpE_semWait_eq 𝒱₀ (c : Thread nD τ) none Set.univ) (Set.mem_univ _) () (O := owed c 32 n) (W := W) (R := 0) (m := 0) (T := ∅)
      (by rw [expect_bar])) $$ [HO Hc Hp HI]
  · isplitl [HI]; · iexact HI
    isplitl [Hc]; · iexact Hc
    isplitl [HO]; · iexact HO
    isplitr
    · iapply (mayWait c (.reg barrier0) 32 n (Or.inr ⟨le_refl _, le_refl _⟩))
      iapply (recs_lev m ρ K) $$ HR
    iexact Hp
  iintro ⟨HO, Hp, -, Hpay⟩
  ihave Hpay := (Entails.of_eq (rest_bar m ρ c)) $$ Hpay
  iapply Hk
  isplitl [HO]; · iexists _; iexact HO
  isplitl [Hp]; · iexact Hp
  iapply (snd_intro c)
  isplitl [Hpay]; · iexact Hpay
  iexact HT

/-! ## Blocks sent, and waits for them to have left -/

/-- The round a send semaphore has reached, read off its position. -/
theorem posAt_reached (w n : ℕ) (h : w ≤ n) (h' : n < w + 16) :
    bigSep (Finset.Ico w (w + 16)) (posAt (F := F) c)
      ⊢ iprop(bigSep (Finset.Ico w (w + 16)) (posAt (F := F) c) ∗ reached ER (sendCell c n) (rnd n)) := by
  rw [bigSep_erase (i := n) (Finset.mem_Ico.mpr ⟨h, h'⟩)]
  show iprop(posAt c n ∗ bigSep ((Finset.Ico w (w + 16)).erase n) (posAt c)) ⊢ iprop((posAt c n ∗ bigSep ((Finset.Ico w (w + 16)).erase n) (posAt c)) ∗ _)
  unfold posAt
  iintro ⟨⟨HA, #HR⟩, Hr⟩
  isplitl [HA Hr]
  · isplitl [HA]
    · isplitl [HA]; · iexact HA
      iexact HR
    iexact Hr
  iexact HR

/-- Block `n` sent: its piece leaves, its slot at the receiver is filled. -/
theorem step_send (w n lo hi : ℕ) (hn : 1 ≤ n) (hn' : n < 32) (hhi : n < hi) (hw : w ≤ n) (hw' : n < w + 16)
    {d : Dev nD} (hd : d = dest c n)
    {offs offd : Fin 3 → ℕ} {inbs inbd} (hs : offs = ![n / 8 % 2, 0, 128 * ((c.val + n % 8) % 8)]) (ht : offd = ![c.val, 0, 0])
    {ss sr : DmaSem sig} (hss : ss = sendS n) (hsr : sr = recvS c)
    {hsc : (slotM offd inbd : Memref sig (Dev.tc d : Thread nD τ).2.kind .vmem S256x128 .bf16).view.ref.isScScratch = false}
    {hsrc : (pieceM offs inbs).view.WordExact} {hdst : (slotM offd inbd).view.WordExact}
    {hsem : DmaTarget.Typed .vmem (.dma sr) (.remote (Dev.tc d : Thread nD τ) (slotM offd inbd) (.dma ss) hsc)}
    {α : Type} {Q : α → sProp 𝕄} {k : PUnit → Prog (TpuEff nD τ sig (Elt F) Λ₀ .tc) α} :
    iprop(Recs m ρ K ∗ Owe c 32 n ∗ Ex m ρ c w n lo hi)
      ⊢ iprop(((Owe c 32 (n + 1) ∗ Ex m ρ c w (n + 1) lo hi) -∗ WP c (k ⟨⟩) Q)
          -∗ WP c (.op (.enqueueDma (pieceM offs inbs) (.remote (Dev.tc d : Thread nD τ) (slotM offd inbd) (.dma ss) hsc) (.dma sr) hsrc hdst hsem) k) Q) := by
  subst hd hss hsr
  iintro ⟨#HR, HO, HE⟩ Hk
  unfold Owe Ex
  icases HO with ⟨%W, HO⟩
  icases HE with ⟨HS, HP, HN, HY, HL⟩
  ihave HS := (snd_split (F := F) c n hn') $$ HS
  icases HS with ⟨HS, HSr⟩
  unfold sndAt tokAt rawSlot
  icases HS with ⟨⟨%fd, Hslot⟩, HtR, HtS⟩
  ihave HP := (posAt_reached c w n hw hw') $$ HP
  icases HP with ⟨HP, Hrs⟩
  ihave HY := (Entails.of_eq (bigSep_Ico_succ_bot hhi (ysAt m ρ c))) $$ HY
  icases HY with ⟨HY, HYr⟩
  ihave H1 := (recs_send m ρ K c n) $$ HR
  icases H1 with ⟨HI1, -⟩
  ihave H2 := (recs_recv m ρ K (dest c n) c) $$ HR
  icases H2 with ⟨HI2, HR2⟩
  unfold ysAt
  have e1 : (pieceM offs inbs).view.set = ysPiece (n / 8 % 2) ((c.val + n % 8) % 8) := pieceM_set offs inbs _ _ hs
  have e2 : (slotM offd inbd).view.set = slotSet c := slotM_set offd inbd c ht
  iapply (Rounds.wp_send_pointsTo 𝒱₀ ER (Rd m ρ) (c : Thread nD τ) none (κ₁ := K (c, sendIx n)) (κ₂ := K (dest c n, recvIx c))
    (r₁ := rnd n) (r₂ := 0) (d₁ := c) (d₂ := c) (fd := fd)
    (by rw [duties_send m ρ c n hn hn']; exact Finset.mem_singleton_self _)
    (by rw [duties_recv m ρ (dest c n) c (dest_ne c n hn hn').symm]; exact Finset.mem_singleton_self _)
    () () N rfl (amount_send m ρ c c n (rnd n)) (amount_recv m ρ (dest c n) c 0 c) (owed c 32 (n + 1)) (owed_send c 32 n hn') (W := W)
    (by rw [payload_send m ρ c c n hn hn', e1]; exact BI.Entails.refl _)
    (by
      rw [payload_recv, pointsTo_congr (land_block m ρ offs offd inbs inbd c n hn' hs ht fd), e2]
      exact BI.Entails.refl _)) $$ [HO HtR HtS Hslot HY HI1 HI2 HR2 Hrs]
  · isplitl [HI1]; · iexact HI1
    isplitl [HI2]; · iexact HI2
    isplitl [HY]; · rw [e1]; iexact HY
    isplitl [Hslot]; · rw [e2]; iexact Hslot
    isplitl [HO]; · iexact HO
    isplitl [HtS]; · iexact HtS
    isplitl [Hrs]; · iexact Hrs
    isplitl [HtR]; · iexact HtR
    iexact HR2
  iintro ⟨HC, HO⟩
  iapply Hk
  isplitl [HO]; · iexists W; iexact HO
  isplitl [HSr]; · iexact HSr
  isplitl [HP]; · iexact HP
  isplitl [HN HC]
  · iapply (Entails.of_eq (bigSep_Ico_succ_top hw (pendAt (F := F) c)).symm)
    isplitl [HC]; · unfold pendAt; iexact HC
    iexact HN
  isplitl [HYr]; · iexact HYr
  iexact HL

/-- Block `w` has left: its piece is back. -/
theorem step_swait (p o w n lo hi : ℕ) (hw1 : 1 ≤ w) (hw : w < n) (hn : n ≤ 32) (hlo : lo ≤ w)
    {ss : DmaSem sig} (hss : ss = sendS w)
    {spS spD : Space} {sS sD : Shape} {eS eD : EltTy} {srcw : Memref sig .tc spS sS eS} {dstw : Memref sig .tc spD sD eD}
    {hsrc : srcw.view.WordExact} {hdst : dstw.view.WordExact} (hN : dstw.view.dmaCredit = N)
    {α : Type} {Q : α → sProp 𝕄} {k : PUnit → Prog (TpuEff nD τ sig (Elt F) Λ₀ .tc) α} :
    iprop(Recs m ρ K ∗ Owe c p o ∗ Ex m ρ c w n lo hi)
      ⊢ iprop(((Owe c p o ∗ Ex m ρ c (w + 1) n lo hi) -∗ WP c (k ⟨⟩) Q)
          -∗ WP c (.op (.waitDma2 ss srcw dstw hsrc hdst) k) Q) := by
  subst hss
  iintro ⟨#HR, HO, HE⟩ Hk
  unfold Owe Ex
  icases HO with ⟨%W, HO⟩
  icases HE with ⟨HS, HP, HN, HY, HL⟩
  ihave HP := (Entails.of_eq (bigSep_Ico_succ_bot (show w < w + 16 by omega) (posAt (F := F) c))) $$ HP
  icases HP with ⟨HP, HPr⟩
  ihave HN := (Entails.of_eq (bigSep_Ico_succ_bot hw (pendAt (F := F) c))) $$ HN
  icases HN with ⟨HN, HNr⟩
  unfold posAt pendAt
  icases HP with ⟨HA, -⟩
  ihave H1 := (recs_send m ρ K c w) $$ HR
  icases H1 with ⟨HI1, -⟩
  have hw32 : w < 32 := lt_of_lt_of_le hw hn
  iapply (Rounds.wp_wait_rest_token 𝒱₀ ER (Rd m ρ) (c : Thread nD τ) none (κ := K (c, sendIx w))
      (sm := .dma (sendS w)) (k' := N)
      (fun Kt => (wpE_waitDma2_eq 𝒱₀ (c : Thread nD τ) none Set.univ Kt).trans (by rw [hN])) (Set.mem_univ _) () (O := owed c p o) (W := W) (R := rnd w) (m := 0) (T := ∅)
      (by rw [Nat.zero_add, expect_send m ρ c w hw1 hw32])) $$ [HO HN HA HI1]
  · isplitl [HI1]; · iexact HI1
    isplitl [HN]; · iexact HN
    isplitl [HO]; · iexact HO
    isplitr
    · iapply (mayWait c (.dma (sendS w)) p o (Or.inl (if_pos (by show 6 + w % 16 < 22; omega))))
      iapply (recs_lev m ρ K) $$ HR
    iexact HA
  iintro ⟨HO, HA, Hr, Hpay⟩
  ihave Hpay := (Entails.of_eq (rest_send m ρ c w hw1 hw32)) $$ Hpay
  iapply Hk
  isplitl [HO]; · iexists _; iexact HO
  isplitl [HS]; · iexact HS
  isplitl [HPr HA Hr]
  · iapply (Entails.of_eq (bigSep_Ico_succ_top (show w + 1 ≤ w + 16 by omega) (posAt (F := F) c)).symm)
    have e1 : sendCell c (w + 16) = sendCell c w := by
      unfold sendCell sendS
      congr 3
      omega
    have e2 : rnd (w + 16) = rnd w + 1 := by unfold rnd; omega
    unfold posAt
    rw [e1, e2]
    isplitl [HA Hr]
    · isplitl [HA]; · iexact HA
      iexact Hr
    iexact HPr
  isplitl [HNr]; · iexact HNr
  isplitl [HY]; · iexact HY
  iapply (Entails.of_eq (bigSep_Ico_succ_top hlo (ysAt m ρ c)).symm)
  isplitl [Hpay]; · iexact Hpay
  iexact HL

/-- The block from device `rot c o` has arrived. -/
theorem step_rwait (o : ℕ) (ho : 1 ≤ o) (ho' : o < 32) {sr : DmaSem sig} (hsr : sr = recvS (rot c o))
    {spS spD : Space} {sS sD : Shape} {eS eD : EltTy} {srcw : Memref sig .tc spS sS eS} {dstw : Memref sig .tc spD sD eD}
    {hsrc : srcw.view.WordExact} {hdst : dstw.view.WordExact} (hN : dstw.view.dmaCredit = N)
    {α : Type} {Q : α → sProp 𝕄} {k : PUnit → Prog (TpuEff nD τ sig (Elt F) Λ₀ .tc) α} :
    iprop(Recs m ρ K ∗ Owe c 32 32 ∗ Rcv m ρ c o)
      ⊢ iprop(((Owe c 32 32 ∗ Rcv m ρ c (o + 1)) -∗ WP c (k ⟨⟩) Q)
          -∗ WP c (.op (.waitDma2 sr srcw dstw hsrc hdst) k) Q) := by
  subst hsr
  iintro ⟨#HR, HO, HE⟩ Hk
  unfold Owe Rcv
  icases HO with ⟨%W, HO⟩
  icases HE with ⟨HN, HG⟩
  ihave HN := (Entails.of_eq (bigSep_Ico_succ_bot ho' (rcvAt (F := F) c))) $$ HN
  icases HN with ⟨HN, HNr⟩
  unfold rcvAt
  icases HN with ⟨HA, HC⟩
  ihave H1 := (recs_recv m ρ K c (rot c o)) $$ HR
  icases H1 with ⟨HI1, -⟩
  iapply (Rounds.wp_wait_rest_token 𝒱₀ ER (Rd m ρ) (c : Thread nD τ) none (κ := K (c, recvIx (rot c o)))
      (sm := .dma (recvS (rot c o))) (k' := N)
      (fun Kt => (wpE_waitDma2_eq 𝒱₀ (c : Thread nD τ) none Set.univ Kt).trans (by rw [hN])) (Set.mem_univ _) () (O := owed c 32 32) (W := W) (R := 0) (m := 0) (T := ∅)
      (by rw [Nat.zero_add, expect_recv m ρ c (rot c o) (rot_ne c o ho ho')])) $$ [HO HC HA HI1]
  · isplitl [HI1]; · iexact HI1
    isplitl [HC]; · iexact HC
    isplitl [HO]; · iexact HO
    isplitr
    · iapply (mayWait_none c (.dma (recvS (rot c o))))
      iapply (recs_lev m ρ K) $$ HR
    iexact HA
  iintro ⟨HO, HA, -, Hpay⟩
  ihave Hpay := (Entails.of_eq (rest_recv m ρ c (rot c o) (rot_ne c o ho ho'))) $$ Hpay
  iapply Hk
  isplitl [HO]; · iexists _; iexact HO
  isplitl [HNr]; · iexact HNr
  iapply (Entails.of_eq (bigSep_Ico_succ_top ho (rcvdAt m ρ c)).symm)
  unfold rcvdAt
  isplitl [HA Hpay]
  · isplitl [HA]; · iexact HA
    iexact Hpay
  iexact HG

/-! ## The weights' copies -/

/-- The copy of half `h` of weight block `u` started on lane `(s, h)`. -/
theorem step_wstart (s h : Fin 2) (u : ℕ) {offs : Fin 2 → ℕ} {offd : Fin 3 → ℕ} {inbs inbd}
    (hs : offs = ![2048 * (u % 4) + 1024 * h.val, 1024 * ((c.val / 8 + u / 4) % 4)]) (hd : offd = ![s.val, 1024 * h.val, 0])
    {sl : DmaSem sig} (hsl : sl = laneS s h)
    {hsrc : (srcM offs inbs).view.WordExact} {hdst : (halfM offd inbd).view.WordExact}
    {hsem : DmaTarget.Typed .hbm (.dma sl) (.here (halfM offd inbd) : DmaTarget nD τ sig (Proc.tc : Proc τ) .vmem S1024x1024 .bf16)}
    {α : Type} {Q : α → sProp 𝕄} {k : PUnit → Prog (TpuEff nD τ sig (Elt F) Λ₀ .tc) α} :
    LRaw m c s h
      ⊢ iprop((LFly m c s h u -∗ WP c (k ⟨⟩) Q)
          -∗ WP c (.op (.enqueueDma (srcM offs inbs) (.here (halfM offd inbd)) (.dma sl) hsrc hdst hsem) k) Q) := by
  subst hsl
  unfold LRaw laneW
  iintro ⟨Hv, ⟨%f, Hd⟩, Hw⟩ Hk
  ihave Hw := (pointsTo_split_subset (S := Finset.univ) (Finset.subset_univ (srcM offs inbs).view.set)).1 $$ Hw
  icases Hw with ⟨Hw, Hwr⟩
  have e2 : (halfM offd inbd).view.set = half s h := halfM_set offd inbd s h hd
  iapply (Transfers.wp_dmaLocal EC 𝒱₀ (c : Thread nD τ) none () NW rfl NW_pos (subset_of_eq e2)) $$ [Hw Hd Hv]
  · isplitl [Hw]; · iexact Hw
    isplitl [Hd]; · iexact Hd
    iexact Hv
  iintro HF
  iapply Hk
  unfold LFly
  iexists (srcM offs inbs).view.set
  isplitl [HF]
  · iapply (Transfers.Flight_mono EC (c : Thread nD τ) (?_)) $$ HF
    rw [pointsTo_congr (e2 ▸ land_half m offs offd inbs inbd c s h u hs hd f)]
  iexact Hwr

/-- Lane `(s, h)`'s copy has arrived. -/
theorem step_wwait (p o : ℕ) (s h : Fin 2) (u : ℕ) {sl : DmaSem sig} (hsl : sl = laneS s h)
    {spS spD : Space} {sS sD : Shape} {eS eD : EltTy} {srcw : Memref sig .tc spS sS eS} {dstw : Memref sig .tc spD sD eD}
    {hsrc : srcw.view.WordExact} {hdst : dstw.view.WordExact} (hN : dstw.view.dmaCredit = NW)
    {α : Type} {Q : α → sProp 𝕄} {k : PUnit → Prog (TpuEff nD τ sig (Elt F) Λ₀ .tc) α} :
    iprop(Recs m ρ K ∗ Owe c p o ∗ LFly m c s h u)
      ⊢ iprop(((Owe c p o ∗ LGot m c s h u) -∗ WP c (k ⟨⟩) Q)
          -∗ WP c (.op (.waitDma2 sl srcw dstw hsrc hdst) k) Q) := by
  subst hsl
  unfold Owe LFly LGot laneW
  iintro ⟨#HR, ⟨%W, HO⟩, ⟨%S, HF, Hwr⟩⟩ Hk
  iapply (Transfers.wp_waitLocalO EC 𝒱₀ (c : Thread nD τ) none () hN (O := owed c p o) (W := W)) $$ [HF HO]
  · isplitl [HF]; · iexact HF
    isplitl [HO]; · iexact HO
    iapply (mayWait c (.dma (laneS s h)) p o (Or.inl (if_pos (by show 2 + 2 * s.val + h.val < 22; omega))))
    iapply (recs_lev m ρ K) $$ HR
  iintro ⟨⟨Hd, Hw⟩, Hv, HO⟩
  iapply Hk
  isplitl [HO]; · iexists _; iexact HO
  isplitl [Hv]; · iexact Hv
  isplitl [Hd]; · iexact Hd
  iapply (pointsTo_split_subset (S := Finset.univ) (Finset.subset_univ S)).2
  isplitl [Hw]; · iexact Hw
  iexact Hwr

end Cert.A2A

end
-- ==== Proof.Local.lean ====
/-
  The steps that stay within a device: loads and stores of the five buffers, and the send buffer's slots cut into pieces
  and put together again.
-/
module

public import proofs.«01_k».proof.Proof.Steps

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

/-! ## Runs of numbers, and the pieces of a slot -/

theorem run_append {a b e : ℕ} (hab : a ≤ b) (hbe : b ≤ e) (A : ℕ → sProp 𝕄) :
    bigSep (Finset.Ico a e) A = iprop(bigSep (Finset.Ico a b) A ∗ bigSep (Finset.Ico b e) A) := by
  rw [← Finset.Ico_union_Ico_eq_Ico hab hbe, bigSep_union (Finset.Ico_disjoint_Ico_consecutive a b e)]
  rfl

theorem piece_disjoint (t : ℕ) : ∀ k ∈ Finset.Ico (8 * t) (8 * t + 8), ∀ k' ∈ Finset.Ico (8 * t) (8 * t + 8), k ≠ k' →
    Disjoint (ysPiece (t % 2) ((c.val + k % 8) % 8)) (ysPiece (t % 2) ((c.val + k' % 8) % 8)) := by
  intro k hk k' hk' hne
  rw [Finset.mem_Ico] at hk hk'
  refine Finset.disjoint_left.mpr fun i hi hi' => ?_
  unfold ysPiece at hi hi'
  rw [Finset.mem_filter] at hi hi'
  omega

theorem slot_pieces (t : ℕ) :
    (Finset.Ico (8 * t) (8 * t + 8)).biUnion (fun k => ysPiece (t % 2) ((c.val + k % 8) % 8)) = ysSlot (t % 2) := by
  ext i
  rw [Finset.mem_biUnion]
  unfold ysSlot ysPiece
  have h2 : (i 2).val < 1024 := (i 2).isLt
  rw [Finset.mem_filter]
  constructor
  · rintro ⟨k, -, hk⟩
    rw [Finset.mem_filter] at hk
    exact ⟨Finset.mem_univ _, hk.2.1⟩
  · rintro ⟨-, h⟩
    refine ⟨8 * t + ((i 2).val / 128 + 8 - c.val % 8) % 8, Finset.mem_Ico.mpr ⟨by omega, by omega⟩, ?_⟩
    rw [Finset.mem_filter]
    exact ⟨Finset.mem_univ _, h, by omega⟩

/-- A slot holding group `t`, as its eight pieces. -/
theorem ys_pieces (t : ℕ) :
    (((c : Thread nD τ).loc cc0_scratch2) ↦[ysSlot (t % 2)]{fullShare} (YS m ρ c t) : sProp 𝕄) = bigSep (Finset.Ico (8 * t) (8 * t + 8)) (ysAt m ρ c) := by
  rw [← slot_pieces c t, pointsTo_biUnion _ _ (piece_disjoint c t)]
  refine bigSep_congr fun k hk => ?_
  rw [Finset.mem_Ico] at hk
  unfold ysAt
  rw [show k / 8 = t by omega]

theorem ys_raw (t : ℕ) : bigSep (Finset.Ico (8 * t) (8 * t + 8)) (ysAt m ρ c) ⊢ RawY (F := F) c (t % 2) := by
  rw [← ys_pieces]
  unfold RawY
  iintro H
  iexists _
  iexact H

/-- Group `t`'s pieces, put beside those already filled. -/
theorem ex_fill (w n lo t : ℕ) (h : n ≤ 8 * t) :
    iprop(Ex m ρ c w n lo (8 * t) ∗ bigSep (Finset.Ico (8 * t) (8 * t + 8)) (ysAt m ρ c)) ⊢ Ex m ρ c w n lo (8 * (t + 1)) := by
  unfold Ex
  iintro ⟨⟨HS, HP, HN, HY, HL⟩, HZ⟩
  isplitl [HS]; · iexact HS
  isplitl [HP]; · iexact HP
  isplitl [HN]; · iexact HN
  isplitl [HY HZ]
  · iapply (Entails.of_eq (run_append h (show 8 * t ≤ 8 * (t + 1) by omega) (ysAt m ρ c)).symm)
    isplitl [HY]; · iexact HY
    iexact HZ
  iexact HL

/-- Group `0`'s pieces: the device's own piece set apart. -/
theorem ex_fill_first :
    iprop(Ex m ρ c 1 1 1 1 ∗ bigSep (Finset.Ico 0 8) (ysAt m ρ c)) ⊢ Ex m ρ c 1 1 0 8 := by
  unfold Ex
  iintro ⟨⟨HS, HP, HN, HY, HL⟩, HZ⟩
  ihave HZ := (Entails.of_eq (run_append (show 0 ≤ 1 by omega) (show 1 ≤ 8 by omega) (ysAt m ρ c))) $$ HZ
  icases HZ with ⟨HZ0, HZ⟩
  isplitl [HS]; · iexact HS
  isplitl [HP]; · iexact HP
  isplitl [HN]; · iexact HN
  isplitl [HZ]; · iexact HZ
  iexact HZ0

/-- Group `t`'s pieces are all back: its slot is free. -/
theorem ex_take (w n t hi : ℕ) (h : w = 8 * t + 8) :
    Ex m ρ c w n (8 * t) hi ⊢ iprop(Ex m ρ c w n w hi ∗ RawY (F := F) c (t % 2)) := by
  subst h
  unfold Ex
  iintro ⟨HS, HP, HN, HY, HL⟩
  isplitr [HL]
  · isplitl [HS]; · iexact HS
    isplitl [HP]; · iexact HP
    isplitl [HN]; · iexact HN
    isplitl [HY]; · iexact HY
    rw [Finset.Ico_self, bigSep_empty]
    iempintro
  iapply (ys_raw m ρ c t) $$ HL

/-! ## Loads and stores -/

/-- The staged block of `x` loaded. -/
theorem step_load_in {q : PosShare TreeShare} (f : Buf (Elt F) ((c : Thread nD τ).loc cc0_stg0_0)) {off : Fin 2 → ℕ} {inb} {hl} (ho : off = fun _ => 0)
    {α : Type} {Q : α → sProp 𝕄} {k : Vec F S256x8192 .bf16 → Prog (TpuEff nD τ sig (Elt F) Λ₀ .tc) α} :
    (((c : Thread nD τ).loc cc0_stg0_0) ↦{q} f)
      ⊢ iprop(((((c : Thread nD τ).loc cc0_stg0_0) ↦{q} f) -∗ WP c (k f) Q)
        -∗ WP c (.op (.load (Memref.whole cc0_stg0_0) (Rect.unit (s := S256x8192) off S256x8192.size inb).toLoadRect hl) k) Q) := by
  iintro H Hk
  iapply (wp_load 𝒱₀ (c : Thread nD τ) none Set.univ (m := Memref.whole cc0_stg0_0) (Finset.subset_univ _)) $$ H
  iintro H
  have e : (Memref.whole cc0_stg0_0).view.readAt (Elt F) (Rect.unit (s := S256x8192) off S256x8192.size inb).toLoadRect f = f :=
    Memref.readAt_unit_zero (Elt F) cc0_stg0_0 ho inb f
  rw [e]
  iapply Hk $$ H

/-- A load of a whole buffer whose value nothing reads. -/
theorem step_load_x (f : Buf (Elt F) ((c : Thread nD τ).loc cc0_scratch0)) {off : Fin 2 → ℕ} {inb} {hl}
    {α : Type} {Q : α → sProp 𝕄} {k : Vec F S256x8192 .bf16 → Prog (TpuEff nD τ sig (Elt F) Λ₀ .tc) α} :
    (((c : Thread nD τ).loc cc0_scratch0) ↦{fullShare} f)
      ⊢ iprop((∀ v, (((c : Thread nD τ).loc cc0_scratch0) ↦{fullShare} f) -∗ WP c (k v) Q)
        -∗ WP c (.op (.load (Memref.whole cc0_scratch0) (Rect.unit (s := S256x8192) off S256x8192.size inb).toLoadRect hl) k) Q) := by
  iintro H Hk
  iapply (wp_load 𝒱₀ (c : Thread nD τ) none Set.univ (m := Memref.whole cc0_scratch0) (Finset.subset_univ _)) $$ H
  iintro H
  iapply Hk $$ H

/-- The block of `x` stored. -/
theorem step_store_x (f : Buf (Elt F) ((c : Thread nD τ).loc cc0_scratch0)) {off : Fin 2 → ℕ} {inb} {h1 h2} (ho : off = fun _ => 0)
    {α : Type} {Q : α → sProp 𝕄} {k : PUnit → Prog (TpuEff nD τ sig (Elt F) Λ₀ .tc) α} :
    (((c : Thread nD τ).loc cc0_scratch0) ↦{fullShare} f)
      ⊢ iprop((XS m ρ c -∗ WP c (k ⟨⟩) Q)
        -∗ WP c (.op (.store (Memref.whole cc0_scratch0) (Rect.unit (s := S256x8192) off S256x8192.size inb) (k0_pay1 (xstg m ρ c)) Finset.univ h1 h2) k) Q) := by
  iintro H Hk
  iapply (wp_store 𝒱₀ (c : Thread nD τ) none Set.univ (m := Memref.whole cc0_scratch0)
    (r := Rect.unit (s := S256x8192) off S256x8192.size inb) (Mk := Finset.univ) (f := f) (Finset.subset_univ _)) $$ H
  iintro H
  have e : ((Memref.whole cc0_scratch0).access (Rect.unit (s := S256x8192) off S256x8192.size inb)).write (Elt F) f (k0_pay1 (xstg m ρ c)) Finset.univ
      = X m ρ c := Memref.write_access_unit_zero_univ (Elt F) cc0_scratch0 ho inb f (X m ρ c)
  rw [e]
  iapply Hk
  unfold XS
  iexact H

/-- Columns `2048 * kk ..` of the stored block loaded. -/
theorem step_xload (kk : ℕ) (hkk : kk < 4) {off : Fin 2 → ℕ} {inb} {hl} (ho : off = ![0, 2048 * kk])
    {α : Type} {Q : α → sProp 𝕄} {k : Vec F S256x2048 .bf16 → Prog (TpuEff nD τ sig (Elt F) Λ₀ .tc) α} :
    XS m ρ c
      ⊢ iprop((XS m ρ c -∗ WP c (k (xs m ρ c kk)) Q)
        -∗ WP c (.op (.load (Memref.whole cc0_scratch0) (Rect.unit (s := S256x8192) off S256x2048.size inb).toLoadRect hl) k) Q) := by
  subst ho
  unfold XS
  iintro H Hk
  iapply (wp_load 𝒱₀ (c : Thread nD τ) none Set.univ (m := Memref.whole cc0_scratch0) (Finset.subset_univ _)) $$ H
  iintro H
  have e : (Memref.whole cc0_scratch0).view.readAt (Elt F) (Rect.unit (s := S256x8192) ![0, 2048 * kk] S256x2048.size inb).toLoadRect (X m ρ c) = xs m ρ c kk := by
    funext i
    show X m ρ c ((Rect.unit (s := S256x8192) _ S256x2048.size inb).emb i) = _
    unfold xs
    congr 1
    have h1 : (i 1).val < 2048 := (i 1).isLt
    funext a
    fin_cases a
    · apply Fin.ext
      show (((Rect.unit (s := S256x8192) _ S256x2048.size inb).emb i 0 : Fin 256) : ℕ) = (i 0).val
      rw [Rect.emb_apply]
      show 0 + 1 * (i 0).val = _
      omega
    · apply Fin.ext
      show (((Rect.unit (s := S256x8192) _ S256x2048.size inb).emb i 1 : Fin 8192) : ℕ) = (2048 * kk + (i 1).val) % 8192
      rw [Rect.emb_apply]
      show 2048 * kk + 1 * (i 1).val = _
      omega
  rw [e]
  iapply Hk $$ H

theorem half_disjoint (s : Fin 2) : Disjoint (half s 0) (half s 1) := by
  refine Finset.disjoint_left.mpr fun i hi hi' => ?_
  unfold half at hi hi'
  rw [Finset.mem_filter] at hi hi'
  have h1 : (i 1).val / 1024 = 0 := hi.2.2
  have h2 : (i 1).val / 1024 = 1 := hi'.2.2
  omega

/-- Weight block `u` loaded from slot `s`, both halves there. -/
theorem step_wload (s : Fin 2) (u : ℕ) {off : Fin 3 → ℕ} {inb} {hl} (ho : off = ![s.val, 0, 0])
    {α : Type} {Q : α → sProp 𝕄} {k : Vec F S1x2048x1024 .bf16 → Prog (TpuEff nD τ sig (Elt F) Λ₀ .tc) α} :
    iprop(LGot m c s 0 u ∗ LGot m c s 1 u)
      ⊢ iprop(((LGot m c s 0 u ∗ LGot m c s 1 u) -∗ WP c (k (wb m c u)) Q)
        -∗ WP c (.op (.load (Memref.whole cc0_scratch1) (Rect.unit (s := S2x2048x1024) off S1x2048x1024.size inb).toLoadRect hl) k) Q) := by
  subst ho
  unfold LGot
  iintro ⟨⟨Hv0, H0, Hw0⟩, ⟨Hv1, H1, Hw1⟩⟩ Hk
  ihave H := (pointsTo_union (ℓ := (c : Thread nD τ).loc cc0_scratch1) (I := half s 0) (J := half s 1) (half_disjoint s)).2 $$ [H0 H1]
  · isplitl [H0]; · iexact H0
    iexact H1
  iapply (wp_load_rect 𝒱₀ (c : Thread nD τ) none Set.univ (m := Memref.whole cc0_scratch1)
    (r := Rect.unit (s := S2x2048x1024) ![s.val, 0, 0] S1x2048x1024.size inb) (S := half s 0 ∪ half s 1) (f := WB m c u)
    (by
      refine (subset_of_eq (View.set_slice_whole cc0_scratch1 _)).trans fun i hi => ?_
      have h0 := (Rect.mem_set_unit.mp hi) 0
      have h0 : s.val ≤ (i 0).val ∧ (i 0).val < s.val + 1 := h0
      have h1 : (i 1).val < 2048 := (i 1).isLt
      rw [Finset.mem_union]
      unfold half
      rw [Finset.mem_filter, Finset.mem_filter]
      have hh0 : ((0 : Fin 2) : ℕ) = 0 := rfl
      have hh1 : ((1 : Fin 2) : ℕ) = 1 := rfl
      rcases Nat.lt_or_ge (i 1).val 1024 with h | h
      · exact Or.inl ⟨Finset.mem_univ _, by omega, by omega⟩
      · exact Or.inr ⟨Finset.mem_univ _, by omega, by omega⟩)) $$ H
  iintro H
  have e : ((Memref.whole cc0_scratch1).access (Rect.unit (s := S2x2048x1024) ![s.val, 0, 0] S1x2048x1024.size inb)).read (Elt F) (WB m c u) = wb m c u := by
    funext i
    show WB m c u ((Rect.unit (s := S2x2048x1024) _ S1x2048x1024.size inb).emb i) = _
    unfold WB wb
    congr 1
    · show (((Rect.unit (s := S2x2048x1024) _ S1x2048x1024.size inb).emb i 1 : Fin 2048) : ℕ) = (i 1).val
      rw [Rect.emb_apply]
      show 0 + 1 * (i 1).val = _
      omega
    · show (((Rect.unit (s := S2x2048x1024) _ S1x2048x1024.size inb).emb i 2 : Fin 1024) : ℕ) = (i 2).val
      rw [Rect.emb_apply]
      show 0 + 1 * (i 2).val = _
      omega
  rw [e]
  ihave H := (pointsTo_union (ℓ := (c : Thread nD τ).loc cc0_scratch1) (I := half s 0) (J := half s 1) (half_disjoint s)).1 $$ H
  icases H with ⟨H0, H1⟩
  iapply Hk
  isplitl [Hv0 H0 Hw0]
  · isplitl [Hv0]; · iexact Hv0
    isplitl [H0]; · iexact H0
    iexact Hw0
  isplitl [Hv1]; · iexact Hv1
  isplitl [H1]; · iexact H1
  iexact Hw1

/-- A slot of the send buffer loaded; nothing reads the value. -/
theorem step_yload (b : ℕ) {off : Fin 3 → ℕ} {inb} {hl} (ho : off = ![b, 0, 0])
    {α : Type} {Q : α → sProp 𝕄} {k : Vec F S1x256x1024 .bf16 → Prog (TpuEff nD τ sig (Elt F) Λ₀ .tc) α} :
    RawY c b
      ⊢ iprop((∀ v, RawY c b -∗ WP c (k v) Q)
        -∗ WP c (.op (.load (Memref.whole cc0_scratch2) (Rect.unit (s := S2x256x1024) off S1x256x1024.size inb).toLoadRect hl) k) Q) := by
  unfold RawY
  iintro ⟨%f, H⟩ Hk
  iapply (wp_load_rect 𝒱₀ (c : Thread nD τ) none Set.univ (m := Memref.whole cc0_scratch2)
    (r := Rect.unit (s := S2x256x1024) off S1x256x1024.size inb) (S := ysSlot b) (f := f)
    (subset_of_eq ((View.set_slice_whole cc0_scratch2 _).trans (ysSlot_rect off inb b ho)))) $$ H
  iintro H
  iapply Hk
  iexists f
  iexact H

theorem ystore_agree (t : ℕ) (inb) (f : cc0_scratch2.ty.Contents (Elt F)) :
    ∀ i ∈ ((Memref.whole cc0_scratch2).access (Rect.unit (s := S2x256x1024) ![t % 2, 0, 0] S1x256x1024.size inb) : View sig .tc .vmem S1x256x1024 .bf16).set,
      ((Memref.whole cc0_scratch2).access (Rect.unit (s := S2x256x1024) ![t % 2, 0, 0] S1x256x1024.size inb) : View sig .tc .vmem S1x256x1024 .bf16).write (Elt F) f (yv m ρ c t) Finset.univ i
        = YS m ρ c t i := by
  refine write_agree ((Memref.whole cc0_scratch2).access (Rect.unit (s := S2x256x1024) ![t % 2, 0, 0] S1x256x1024.size inb) : View sig .tc .vmem S1x256x1024 .bf16)
    f (YS m ρ c t) (yv m ρ c t) fun x => ?_
  show yv m ρ c t x = YS m ρ c t ((Rect.unit (s := S2x256x1024) _ S1x256x1024.size inb).emb x)
  unfold YS
  congr 1
  have h0 : (x 0).val < 1 := (x 0).isLt
  funext a
  fin_cases a
  · apply Fin.ext
    show (x 0).val = 0
    omega
  · apply Fin.ext
    show (x 1).val = (((Rect.unit (s := S2x256x1024) _ S1x256x1024.size inb).emb x 1 : Fin 256) : ℕ)
    rw [Rect.emb_apply]
    show _ = 0 + 1 * (x 1).val
    omega
  · apply Fin.ext
    show (x 2).val = (((Rect.unit (s := S2x256x1024) _ S1x256x1024.size inb).emb x 2 : Fin 1024) : ℕ)
    rw [Rect.emb_apply]
    show _ = 0 + 1 * (x 2).val
    omega

/-- Group `t` stored into its slot of the send buffer: its eight pieces. -/
theorem step_ystore (t : ℕ) {off : Fin 3 → ℕ} {inb} {h1 h2} (ho : off = ![t % 2, 0, 0]) {w : Vec F S1x256x1024 .bf16} (hw : w = yv m ρ c t)
    {α : Type} {Q : α → sProp 𝕄} {k : PUnit → Prog (TpuEff nD τ sig (Elt F) Λ₀ .tc) α} :
    RawY c (t % 2)
      ⊢ iprop((bigSep (Finset.Ico (8 * t) (8 * t + 8)) (ysAt m ρ c) -∗ WP c (k ⟨⟩) Q)
        -∗ WP c (.op (.store (Memref.whole cc0_scratch2) (Rect.unit (s := S2x256x1024) off S1x256x1024.size inb) w Finset.univ h1 h2) k) Q) := by
  subst hw
  unfold RawY
  iintro ⟨%f, H⟩ Hk
  have hset : ((Memref.whole cc0_scratch2).access (Rect.unit (s := S2x256x1024) off S1x256x1024.size inb)).set = ysSlot (t % 2) :=
    (View.set_slice_whole cc0_scratch2 _).trans (ysSlot_rect off inb _ ho)
  iapply (wp_store 𝒱₀ (c : Thread nD τ) none Set.univ (m := Memref.whole cc0_scratch2)
    (r := Rect.unit (s := S2x256x1024) off S1x256x1024.size inb) (Mk := Finset.univ) (f := f) (S := ysSlot (t % 2)) (subset_of_eq hset)) $$ H
  iintro H
  iapply Hk
  subst ho
  iapply (Entails.of_eq ((pointsTo_congr (ℓ := (c : Thread nD τ).loc cc0_scratch2) (I := ysSlot (t % 2)) (q := fullShare)
    (hset ▸ ystore_agree m ρ c t inb f)).trans (ys_pieces m ρ c t))) $$ H

/-! ## The device's own block -/

/-- The piece of group `0` that stays. -/
def own : Vec F S1x256x128 .bf16 :=
  fun i => YS m ρ c 0 (ix3 (0 : Fin 2) (i 1) (⟨(128 * (c.val % 8) + (i 2).val) % 1024, Nat.mod_lt _ (by decide)⟩ : Fin 1024))

theorem step_own_load (n hi : ℕ) {off : Fin 3 → ℕ} {inb} {hl} (ho : off = ![0, 0, 128 * (c.val % 8)])
    {α : Type} {Q : α → sProp 𝕄} {k : Vec F S1x256x128 .bf16 → Prog (TpuEff nD τ sig (Elt F) Λ₀ .tc) α} :
    Ex m ρ c 1 n 0 hi
      ⊢ iprop((Ex m ρ c 1 n 0 hi -∗ WP c (k (own m ρ c)) Q)
        -∗ WP c (.op (.load (Memref.whole cc0_scratch2) (Rect.unit (s := S2x256x1024) off S1x256x128.size inb).toLoadRect hl) k) Q) := by
  unfold Ex
  iintro ⟨HS, HP, HN, HY, HL⟩ Hk
  ihave HL := (Entails.of_eq (bigSep_Ico_one 0 (ysAt m ρ c))) $$ HL
  unfold ysAt
  iapply (wp_load_rect 𝒱₀ (c : Thread nD τ) none Set.univ (m := Memref.whole cc0_scratch2)
    (r := Rect.unit (s := S2x256x1024) off S1x256x128.size inb) (f := YS m ρ c (0 / 8))
    (subset_of_eq ((View.set_slice_whole cc0_scratch2 _).trans ((piece_rect off inb 0 (c.val % 8) ho).trans (by rw [Nat.zero_div, Nat.zero_mod, Nat.add_zero]))))) $$ HL
  iintro HL
  have e : ((Memref.whole cc0_scratch2).access (Rect.unit (s := S2x256x1024) off S1x256x128.size inb)).read (Elt F) (YS m ρ c (0 / 8)) = own m ρ c := by
    subst ho
    funext x
    show YS m ρ c 0 ((Rect.unit (s := S2x256x1024) _ S1x256x128.size inb).emb x) = _
    unfold own
    have h0 : (x 0).val < 1 := (x 0).isLt
    have h2 : (x 2).val < 128 := (x 2).isLt
    congr 1
    funext a
    fin_cases a
    · apply Fin.ext
      show (((Rect.unit (s := S2x256x1024) _ S1x256x128.size inb).emb x 0 : Fin 2) : ℕ) = 0
      rw [Rect.emb_apply]
      show 0 + 1 * (x 0).val = 0
      omega
    · apply Fin.ext
      show (((Rect.unit (s := S2x256x1024) _ S1x256x128.size inb).emb x 1 : Fin 256) : ℕ) = (x 1).val
      rw [Rect.emb_apply]
      show 0 + 1 * (x 1).val = _
      omega
    · apply Fin.ext
      show (((Rect.unit (s := S2x256x1024) _ S1x256x128.size inb).emb x 2 : Fin 1024) : ℕ) = (128 * (c.val % 8) + (x 2).val) % 1024
      rw [Rect.emb_apply]
      show 128 * (c.val % 8) + 1 * (x 2).val = _
      omega
  rw [e]
  iapply Hk
  isplitl [HS]; · iexact HS
  isplitl [HP]; · iexact HP
  isplitl [HN]; · iexact HN
  isplitl [HY]; · iexact HY
  iapply (Entails.of_eq (bigSep_Ico_one 0 (ysAt m ρ c)).symm)
  unfold ysAt
  iexact HL

/-- The device's own slot of the receive buffer loaded; nothing reads the value. -/
theorem step_slot_load {off : Fin 3 → ℕ} {inb} {hl} (ho : off = ![c.val, 0, 0])
    {α : Type} {Q : α → sProp 𝕄} {k : Vec F S1x256x128 .bf16 → Prog (TpuEff nD τ sig (Elt F) Λ₀ .tc) α} :
    rawSlot c c
      ⊢ iprop((∀ v, rawSlot c c -∗ WP c (k v) Q)
        -∗ WP c (.op (.load (Memref.whole cc0_scratch3) (Rect.unit (s := S32x256x128) off S1x256x128.size inb).toLoadRect hl) k) Q) := by
  unfold rawSlot
  iintro ⟨%f, H⟩ Hk
  iapply (wp_load_rect 𝒱₀ (c : Thread nD τ) none Set.univ (m := Memref.whole cc0_scratch3)
    (r := Rect.unit (s := S32x256x128) off S1x256x128.size inb) (S := slotSet c) (f := f)
    (subset_of_eq ((View.set_slice_whole cc0_scratch3 _).trans (slot_rect off inb c ho)))) $$ H
  iintro H
  iapply Hk
  iexists f
  iexact H

theorem own_pay : k0_pay7 (own m ρ c) = own m ρ c := by
  funext i
  unfold k0_pay7
  rw [eq_ix3 i]
  simp only [pointwise]

theorem slot_agree (inb) (f : cc0_scratch3.ty.Contents (Elt F)) :
    ∀ i ∈ ((Memref.whole cc0_scratch3).access (Rect.unit (s := S32x256x128) ![c.val, 0, 0] S1x256x128.size inb) : View sig .tc .vmem S1x256x128 .bf16).set,
      ((Memref.whole cc0_scratch3).access (Rect.unit (s := S32x256x128) ![c.val, 0, 0] S1x256x128.size inb) : View sig .tc .vmem S1x256x128 .bf16).write (Elt F) f (own m ρ c) Finset.univ i
        = RB m ρ c i := by
  refine write_agree ((Memref.whole cc0_scratch3).access (Rect.unit (s := S32x256x128) ![c.val, 0, 0] S1x256x128.size inb) : View sig .tc .vmem S1x256x128 .bf16)
    f (RB m ρ c) (own m ρ c) fun x => ?_
  show own m ρ c x = RB m ρ c ((Rect.unit (s := S32x256x128) _ S1x256x128.size inb).emb x)
  have h0 : (x 0).val < 1 := (x 0).isLt
  have e0 : ((Rect.unit (s := S32x256x128) ![c.val, 0, 0] S1x256x128.size inb).emb x 0 : Fin 32) = c := by
    apply Fin.ext
    rw [Rect.emb_apply]
    show c.val + 1 * (x 0).val = c.val
    omega
  unfold RB own
  rw [show (((Rect.unit (s := S32x256x128) ![c.val, 0, 0] S1x256x128.size inb).emb x 0 : Fin 32) : Dev nD) = c from e0,
    show (c.val / 8 + 4 - c.val / 8) % 4 = 0 by omega]
  congr 1
  funext a
  fin_cases a
  · rfl
  · apply Fin.ext
    show (x 1).val = (((Rect.unit (s := S32x256x128) _ S1x256x128.size inb).emb x 1 : Fin 256) : ℕ)
    rw [Rect.emb_apply]
    show _ = 0 + 1 * (x 1).val
    omega
  · apply Fin.ext
    show (128 * (c.val % 8) + (x 2).val) % 1024
      = (128 * (c.val % 8) + (((Rect.unit (s := S32x256x128) _ S1x256x128.size inb).emb x 2 : Fin 128) : ℕ)) % 1024
    rw [Rect.emb_apply]
    show _ = (128 * (c.val % 8) + (0 + 1 * (x 2).val)) % 1024
    rw [Nat.zero_add, Nat.one_mul]

/-- The device's own block stored into its own slot. -/
theorem step_slot_store {off : Fin 3 → ℕ} {inb} {h1 h2} (ho : off = ![c.val, 0, 0])
    {α : Type} {Q : α → sProp 𝕄} {k : PUnit → Prog (TpuEff nD τ sig (Elt F) Λ₀ .tc) α} :
    rawSlot c c
      ⊢ iprop((gotSlot m ρ c c -∗ WP c (k ⟨⟩) Q)
        -∗ WP c (.op (.store (Memref.whole cc0_scratch3) (Rect.unit (s := S32x256x128) off S1x256x128.size inb) (k0_pay7 (own m ρ c)) Finset.univ h1 h2) k) Q) := by
  rw [own_pay]
  unfold rawSlot gotSlot
  iintro ⟨%f, H⟩ Hk
  have hset : ((Memref.whole cc0_scratch3).access (Rect.unit (s := S32x256x128) off S1x256x128.size inb)).set = slotSet c :=
    (View.set_slice_whole cc0_scratch3 _).trans (slot_rect off inb c ho)
  iapply (wp_store 𝒱₀ (c : Thread nD τ) none Set.univ (m := Memref.whole cc0_scratch3)
    (r := Rect.unit (s := S32x256x128) off S1x256x128.size inb) (Mk := Finset.univ) (f := f) (S := slotSet c) (subset_of_eq hset)) $$ H
  iintro H
  iapply Hk
  subst ho
  iapply (Entails.of_eq (pointsTo_congr (ℓ := (c : Thread nD τ).loc cc0_scratch3) (I := slotSet c) (q := fullShare)
    (hset ▸ slot_agree m ρ c inb f))) $$ H

/-! ## The receive buffer put together, and the result stored -/

/-- The receive buffer with every slot filled. -/
def Full : sProp 𝕄 := ((c : Thread nD τ).loc cc0_scratch3) ↦{fullShare} (RB m ρ c)

theorem step_recv_load {off : Fin 3 → ℕ} {inb} {hl} (ho : off = fun _ => 0)
    {α : Type} {Q : α → sProp 𝕄} {k : Vec F S32x256x128 .bf16 → Prog (TpuEff nD τ sig (Elt F) Λ₀ .tc) α} :
    Full m ρ c
      ⊢ iprop((Full m ρ c -∗ WP c (k (RB m ρ c)) Q)
        -∗ WP c (.op (.load (Memref.whole cc0_scratch3) (Rect.unit (s := S32x256x128) off S32x256x128.size inb).toLoadRect hl) k) Q) := by
  unfold Full
  iintro H Hk
  iapply (wp_load 𝒱₀ (c : Thread nD τ) none Set.univ (m := Memref.whole cc0_scratch3) (Finset.subset_univ _)) $$ H
  iintro H
  have e : (Memref.whole cc0_scratch3).view.readAt (Elt F) (Rect.unit (s := S32x256x128) off S32x256x128.size inb).toLoadRect (RB m ρ c) = RB m ρ c :=
    Memref.readAt_unit_zero (Elt F) cc0_scratch3 ho inb (RB m ρ c)
  rw [e]
  iapply Hk $$ H

theorem step_out_load (f : Buf (Elt F) ((c : Thread nD τ).loc cc0_stg1_0)) {off : Fin 2 → ℕ} {inb} {hl}
    {α : Type} {Q : α → sProp 𝕄} {k : Vec F S8192x128 .f32 → Prog (TpuEff nD τ sig (Elt F) Λ₀ .tc) α} :
    (((c : Thread nD τ).loc cc0_stg1_0) ↦{fullShare} f)
      ⊢ iprop((∀ v, (((c : Thread nD τ).loc cc0_stg1_0) ↦{fullShare} f) -∗ WP c (k v) Q)
        -∗ WP c (.op (.load (Memref.whole cc0_stg1_0) (Rect.unit (s := S8192x128) off S8192x128.size inb).toLoadRect hl) k) Q) := by
  iintro H Hk
  iapply (wp_load 𝒱₀ (c : Thread nD τ) none Set.univ (m := Memref.whole cc0_stg1_0) (Finset.subset_univ _)) $$ H
  iintro H
  iapply Hk $$ H

theorem step_out_store (f : Buf (Elt F) ((c : Thread nD τ).loc cc0_stg1_0)) {off : Fin 2 → ℕ} {inb} {h1 h2} (ho : off = fun _ => 0)
    {α : Type} {Q : α → sProp 𝕄} {k : PUnit → Prog (TpuEff nD τ sig (Elt F) Λ₀ .tc) α} :
    (((c : Thread nD τ).loc cc0_stg1_0) ↦{fullShare} f)
      ⊢ iprop(((((c : Thread nD τ).loc cc0_stg1_0) ↦{fullShare} (outAt m ρ c)) -∗ WP c (k ⟨⟩) Q)
        -∗ WP c (.op (.store (Memref.whole cc0_stg1_0) (Rect.unit (s := S8192x128) off S8192x128.size inb) (k0_pay27 (RB m ρ c)) Finset.univ h1 h2) k) Q) := by
  iintro H Hk
  iapply (wp_store 𝒱₀ (c : Thread nD τ) none Set.univ (m := Memref.whole cc0_stg1_0)
    (r := Rect.unit (s := S8192x128) off S8192x128.size inb) (Mk := Finset.univ) (f := f) (Finset.subset_univ _)) $$ H
  iintro H
  have e : ((Memref.whole cc0_stg1_0).access (Rect.unit (s := S8192x128) off S8192x128.size inb)).write (Elt F) f (k0_pay27 (RB m ρ c)) Finset.univ
      = outAt m ρ c := Memref.write_access_unit_zero_univ (Elt F) cc0_stg1_0 ho inb f (outAt m ρ c)
  rw [e]
  iapply Hk $$ H

end Cert.A2A

end
-- ==== Proof.Moves.lean ====
/-
  The state of the exchange between two steps, and each step as a change of it.
-/
module

public import proofs.«01_k».proof.Proof.Local

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

/-! ## Names of semaphores and devices -/

theorem recv_sem (off : Fin 1 → ℕ) (inb) (d : Dev nD) (h : off = ![d.val]) :
    ((cc0_scratch6.slice (Rect.unit (s := S32) off S1.size inb)).squeeze S_ squeezes_S1_S_).sem = recvS d := by
  subst h
  revert d
  decide +kernel

theorem send_sem (off : Fin 1 → ℕ) (inb) (k : ℕ) (h : off = ![k % 16]) :
    ((cc0_scratch5.slice (Rect.unit (s := S16) off S1.size inb)).squeeze S_ squeezes_S1_S_).sem = sendS k := by
  subst h
  have key : ∀ i : Fin 16, ∀ inb : (∀ a, (![i.val] : Fin 1 → ℕ) a + S1.size a ≤ S16.size a),
      ((cc0_scratch5.slice (Rect.unit (s := S16) ![i.val] S1.size inb)).squeeze S_ squeezes_S1_S_).sem = sendS i.val := by decide +kernel
  rw [show sendS k = sendS (k % 16) from by unfold sendS; simp only [Nat.mod_mod]]
  exact key ⟨k % 16, Nat.mod_lt _ (by decide)⟩ inb

theorem lane_sem (off : Fin 2 → ℕ) (inb) (s h : Fin 2) (ho : off = ![s.val, h.val]) :
    ((cc0_scratch4.slice (Rect.unit (s := S2x2) off S1x1.size inb)).squeeze S_ squeezes_S1x1_S_).sem = laneS s h := by
  subst ho
  revert s h
  decide +kernel

theorem dest_eq (n : ℕ) {d : Dev nD} (h : c.val < 32 → d.val = 8 * ((c.val / 8 + n / 8) % 4) + (c.val + n % 8) % 8) : d = dest c n := by
  apply Fin.ext
  rw [h c.isLt]
  show _ = (c.val / 8 + n / 8) % 4 * 8 + (c.val + n % 8) % 8
  omega

/-! ## The state of the exchange, and the steps that change it -/

/-- Signals `p ..` ahead. -/
def SigS (p : ℕ) : sProp 𝕄 := iprop(Recs m ρ K ∗ Owe c p 1 ∗ Sig c p)
/-- Every signal sent: waits `w ..` and blocks `n ..` ahead, pieces `n .. hi` filled, pieces `lo .. w` back. -/
def St (n w lo hi : ℕ) : sProp 𝕄 := iprop(Recs m ρ K ∗ Owe c 32 n ∗ Ex m ρ c w n lo hi)

theorem mv_signal (p : ℕ) (h : 1 ≤ p ∧ p < 32) {d : Dev nD} (hd : d = rot c p) {sem : Sem sig} (hs : sem = barrier0) {a : ℤ} (ha : a = 1)
    {α : Type} {Q : α → sProp 𝕄} {k : PUnit → Prog (TpuEff nD τ sig (Elt F) Λ₀ .tc) α} :
    SigS m ρ K c p
      ⊢ iprop((SigS m ρ K c (p + 1) -∗ WP c (k ⟨⟩) Q) -∗ WP c (.op (.semSignal (d : Thread nD τ) sem a) k) Q) := by
  unfold SigS
  iintro ⟨#HR, HO, HS⟩ Hk
  iapply (step_signal m ρ K c p 1 h.1 h.2 hd hs ha) $$ [HO HS]
  · iframe <;> iexact HR
  iintro ⟨HO, HS⟩
  iapply Hk
  iframe <;> iexact HR

theorem mv_bar {sem : Sem sig} (hs : sem = barrier0) {a : ℤ} (ha : a = 31)
    {α : Type} {Q : α → sProp 𝕄} {k : PUnit → Prog (TpuEff nD τ sig (Elt F) Λ₀ .tc) α} :
    SigS m ρ K c 32
      ⊢ iprop(Bar0 c -∗ bigSep (Finset.Ico 1 17) (posAt c)
        -∗ (St m ρ K c 1 1 1 1 -∗ atPos ER (barCell c) 1 ∅ 0 -∗ WP c (k ⟨⟩) Q) -∗ WP c (.op (.semWait sem a) k) Q) := by
  unfold SigS St Ex
  simp only [Finset.Ico_self, bigSep_empty]
  iintro ⟨#HR, HO, -⟩ HB HP Hk
  iapply (step_bar m ρ K c 1 hs ha) $$ [HO HB]
  · iframe <;> iexact HR
  iintro ⟨HO, HA, HS⟩
  iapply Hk $$ [HO HS HP] [HA]
  · isplitr; · iexact HR
    isplitl [HO]; · iexact HO
    isplitl [HS]; · iexact HS
    isplitl [HP]; · iexact HP
    isplitr; · iempintro
    isplitr <;> iempintro
  · iexact HA

theorem mv_send (n w lo hi : ℕ) (h : 1 ≤ n ∧ n < 32 ∧ n < hi ∧ w ≤ n ∧ n < w + 16)
    {d : Dev nD} (hd : d = dest c n)
    {offs offd : Fin 3 → ℕ} {inbs inbd} (hs : offs = ![n / 8 % 2, 0, 128 * ((c.val + n % 8) % 8)]) (ht : offd = ![c.val, 0, 0])
    {ss sr : DmaSem sig} (hss : ss = sendS n) (hsr : sr = recvS c)
    {hsc : (slotM offd inbd : Memref sig (Dev.tc d : Thread nD τ).2.kind .vmem S256x128 .bf16).view.ref.isScScratch = false}
    {hsrc : (pieceM offs inbs).view.WordExact} {hdst : (slotM offd inbd).view.WordExact}
    {hsem : DmaTarget.Typed .vmem (.dma sr) (.remote (Dev.tc d : Thread nD τ) (slotM offd inbd) (.dma ss) hsc)}
    {α : Type} {Q : α → sProp 𝕄} {k : PUnit → Prog (TpuEff nD τ sig (Elt F) Λ₀ .tc) α} :
    St m ρ K c n w lo hi
      ⊢ iprop((St m ρ K c (n + 1) w lo hi -∗ WP c (k ⟨⟩) Q)
          -∗ WP c (.op (.enqueueDma (pieceM offs inbs) (.remote (Dev.tc d : Thread nD τ) (slotM offd inbd) (.dma ss) hsc) (.dma sr) hsrc hdst hsem) k) Q) := by
  unfold St
  iintro ⟨#HR, HO, HE⟩ Hk
  iapply (step_send m ρ K c w n lo hi h.1 h.2.1 h.2.2.1 h.2.2.2.1 h.2.2.2.2 hd hs ht hss hsr) $$ [HO HE]
  · iframe <;> iexact HR
  iintro ⟨HO, HE⟩
  iapply Hk
  iframe <;> iexact HR

theorem mv_swait (n w lo hi : ℕ) (h : 1 ≤ w ∧ w < n ∧ n ≤ 32 ∧ lo ≤ w)
    {ss : DmaSem sig} (hss : ss = sendS w)
    {spS spD : Space} {sS sD : Shape} {eS eD : EltTy} {srcw : Memref sig .tc spS sS eS} {dstw : Memref sig .tc spD sD eD}
    {hsrc : srcw.view.WordExact} {hdst : dstw.view.WordExact} (hN : dstw.view.dmaCredit = N)
    {α : Type} {Q : α → sProp 𝕄} {k : PUnit → Prog (TpuEff nD τ sig (Elt F) Λ₀ .tc) α} :
    St m ρ K c n w lo hi
      ⊢ iprop((St m ρ K c n (w + 1) lo hi -∗ WP c (k ⟨⟩) Q)
          -∗ WP c (.op (.waitDma2 ss srcw dstw hsrc hdst) k) Q) := by
  unfold St
  iintro ⟨#HR, HO, HE⟩ Hk
  iapply (step_swait m ρ K c 32 n w n lo hi h.1 h.2.1 h.2.2.1 h.2.2.2 hss hN) $$ [HO HE]
  · iframe <;> iexact HR
  iintro ⟨HO, HE⟩
  iapply Hk
  iframe <;> iexact HR

theorem mv_rwait (w lo hi o : ℕ) (h : 1 ≤ o ∧ o < 32) {sr : DmaSem sig} (hsr : sr = recvS (rot c o))
    {spS spD : Space} {sS sD : Shape} {eS eD : EltTy} {srcw : Memref sig .tc spS sS eS} {dstw : Memref sig .tc spD sD eD}
    {hsrc : srcw.view.WordExact} {hdst : dstw.view.WordExact} (hN : dstw.view.dmaCredit = N)
    {α : Type} {Q : α → sProp 𝕄} {k : PUnit → Prog (TpuEff nD τ sig (Elt F) Λ₀ .tc) α} :
    St m ρ K c 32 w lo hi
      ⊢ iprop(Rcv m ρ c o -∗ (St m ρ K c 32 w lo hi -∗ Rcv m ρ c (o + 1) -∗ WP c (k ⟨⟩) Q)
          -∗ WP c (.op (.waitDma2 sr srcw dstw hsrc hdst) k) Q) := by
  unfold St
  iintro ⟨#HR, HO, HE⟩ HV Hk
  iapply (step_rwait m ρ K c o h.1 h.2 hsr hN) $$ [HO HV]
  · iframe <;> iexact HR
  iintro ⟨HO, HV⟩
  iapply Hk $$ [HO HE] [HV]
  · iframe <;> iexact HR
  · iexact HV

theorem mv_wwait (n w lo hi : ℕ) (s h : Fin 2) (u : ℕ) {sl : DmaSem sig} (hsl : sl = laneS s h)
    {spS spD : Space} {sS sD : Shape} {eS eD : EltTy} {srcw : Memref sig .tc spS sS eS} {dstw : Memref sig .tc spD sD eD}
    {hsrc : srcw.view.WordExact} {hdst : dstw.view.WordExact} (hN : dstw.view.dmaCredit = NW)
    {α : Type} {Q : α → sProp 𝕄} {k : PUnit → Prog (TpuEff nD τ sig (Elt F) Λ₀ .tc) α} :
    St m ρ K c n w lo hi
      ⊢ iprop(LFly m c s h u -∗ (St m ρ K c n w lo hi -∗ LGot m c s h u -∗ WP c (k ⟨⟩) Q)
          -∗ WP c (.op (.waitDma2 sl srcw dstw hsrc hdst) k) Q) := by
  unfold St
  iintro ⟨#HR, HO, HE⟩ HL Hk
  iapply (step_wwait m ρ K c 32 n s h u hsl hN) $$ [HO HL]
  · iframe <;> iexact HR
  iintro ⟨HO, HL⟩
  iapply Hk $$ [HO HE] [HL]
  · iframe <;> iexact HR
  · iexact HL

theorem mv_restart (u' : ℕ) (s h : Fin 2) (u : ℕ) {offs : Fin 2 → ℕ} {offd : Fin 3 → ℕ} {inbs inbd}
    (hs : offs = ![2048 * (u % 4) + 1024 * h.val, 1024 * ((c.val / 8 + u / 4) % 4)]) (hd : offd = ![s.val, 1024 * h.val, 0])
    {sl : DmaSem sig} (hsl : sl = laneS s h)
    {hsrc : (srcM offs inbs).view.WordExact} {hdst : (halfM offd inbd).view.WordExact}
    {hsem : DmaTarget.Typed .hbm (.dma sl) (.here (halfM offd inbd) : DmaTarget nD τ sig (Proc.tc : Proc τ) .vmem S1024x1024 .bf16)}
    {α : Type} {Q : α → sProp 𝕄} {k : PUnit → Prog (TpuEff nD τ sig (Elt F) Λ₀ .tc) α} :
    LGot m c s h u'
      ⊢ iprop((LFly m c s h u -∗ WP c (k ⟨⟩) Q)
          -∗ WP c (.op (.enqueueDma (srcM offs inbs) (.here (halfM offd inbd)) (.dma sl) hsrc hdst hsem) k) Q) :=
  (LGot_raw m c s h u').trans (step_wstart m c s h u hs hd hsl)

theorem mv_wload (s : Fin 2) (u : ℕ) {off : Fin 3 → ℕ} {inb} {hl} (ho : off = ![s.val, 0, 0])
    {α : Type} {Q : α → sProp 𝕄} {k : Vec F S1x2048x1024 .bf16 → Prog (TpuEff nD τ sig (Elt F) Λ₀ .tc) α} :
    LGot m c s 0 u
      ⊢ iprop(LGot m c s 1 u -∗ (LGot m c s 0 u -∗ LGot m c s 1 u -∗ WP c (k (wb m c u)) Q)
        -∗ WP c (.op (.load (Memref.whole cc0_scratch1) (Rect.unit (s := S2x2048x1024) off S1x2048x1024.size inb).toLoadRect hl) k) Q) := by
  iintro H0 H1 Hk
  iapply (step_wload m c s u ho) $$ [H0 H1]
  · iframe <;> iexact HR
  iintro ⟨H0, H1⟩
  iapply Hk $$ H0 H1

/-- Block `t ≥ 1` of the send buffer filled. -/
theorem mv_fill (t n w lo : ℕ) (h : n ≤ 8 * t) {off : Fin 3 → ℕ} {inb} {h1 h2} (ho : off = ![t % 2, 0, 0]) {v : Vec F S1x256x1024 .bf16} (hv : v = yv m ρ c t)
    {α : Type} {Q : α → sProp 𝕄} {k : PUnit → Prog (TpuEff nD τ sig (Elt F) Λ₀ .tc) α} :
    St m ρ K c n w lo (8 * t)
      ⊢ iprop(RawY c (t % 2) -∗ (St m ρ K c n w lo (8 * (t + 1)) -∗ WP c (k ⟨⟩) Q)
        -∗ WP c (.op (.store (Memref.whole cc0_scratch2) (Rect.unit (s := S2x256x1024) off S1x256x1024.size inb) v Finset.univ h1 h2) k) Q) := by
  unfold St
  iintro ⟨#HR, HO, HE⟩ HY Hk
  iapply (step_ystore m ρ c t ho hv) $$ HY
  iintro HY
  iapply Hk
  isplitr; · iexact HR
  isplitl [HO]; · iexact HO
  iapply (ex_fill m ρ c w n lo t h)
  iframe <;> iexact HR

/-- Block `0` of the send buffer filled. -/
theorem mv_fill_first {off : Fin 3 → ℕ} {inb} {h1 h2} (ho : off = ![0, 0, 0]) {v : Vec F S1x256x1024 .bf16} (hv : v = yv m ρ c 0)
    {α : Type} {Q : α → sProp 𝕄} {k : PUnit → Prog (TpuEff nD τ sig (Elt F) Λ₀ .tc) α} :
    St m ρ K c 1 1 1 1
      ⊢ iprop(RawY c 0 -∗ (St m ρ K c 1 1 0 8 -∗ WP c (k ⟨⟩) Q)
        -∗ WP c (.op (.store (Memref.whole cc0_scratch2) (Rect.unit (s := S2x256x1024) off S1x256x1024.size inb) v Finset.univ h1 h2) k) Q) := by
  unfold St
  iintro ⟨#HR, HO, HE⟩ HY Hk
  iapply (step_ystore m ρ c 0 ho hv) $$ HY
  iintro HY
  iapply Hk
  isplitr; · iexact HR
  isplitl [HO]; · iexact HO
  iapply (ex_fill_first m ρ c)
  iframe <;> iexact HR

/-- Block `t` of the send buffer, sent and back, free to be filled again. -/
theorem mv_take (n t hi : ℕ) :
    St m ρ K c n (8 * t + 8) (8 * t) hi ⊢ iprop(St m ρ K c n (8 * t + 8) (8 * t + 8) hi ∗ RawY (F := F) c (t % 2)) := by
  unfold St
  iintro ⟨#HR, HO, HE⟩
  ihave ⟨HE, HY⟩ := (ex_take m ρ c (8 * t + 8) n t hi rfl) $$ HE
  iframe <;> iexact HR

theorem mv_own_load (n hi : ℕ) {off : Fin 3 → ℕ} {inb} {hl} (ho : off = ![0, 0, 128 * (c.val % 8)])
    {α : Type} {Q : α → sProp 𝕄} {k : Vec F S1x256x128 .bf16 → Prog (TpuEff nD τ sig (Elt F) Λ₀ .tc) α} :
    St m ρ K c n 1 0 hi
      ⊢ iprop((St m ρ K c n 1 0 hi -∗ WP c (k (own m ρ c)) Q)
        -∗ WP c (.op (.load (Memref.whole cc0_scratch2) (Rect.unit (s := S2x256x1024) off S1x256x128.size inb).toLoadRect hl) k) Q) := by
  unfold St
  iintro ⟨#HR, HO, HE⟩ Hk
  iapply (step_own_load m ρ c n hi ho) $$ HE
  iintro HE
  iapply Hk
  iframe <;> iexact HR

/-! ## A part of the body on the device's own buffers -/

/-- What a part of the body takes first: the buffers and the semaphores. -/
abbrev PartFn (β : Type 1) : Type 1 :=
  (arg0 : Memref sig .tc .vmem S256x8192 .bf16) → arg0.IsWhole → (arg1 : Memref sig .tc .hbm S8192x4096 .bf16) → arg1.IsWhole
    → (arg2 : Memref sig .tc .vmem S8192x128 .f32) → arg2.IsWhole → (arg3 : Memref sig .tc .vmem S256x8192 .bf16) → arg3.IsWhole
    → (arg4 : Memref sig .tc .vmem S2x2048x1024 .bf16) → arg4.IsWhole → (arg5 : Memref sig .tc .vmem S2x256x1024 .bf16) → arg5.IsWhole
    → (arg6 : Memref sig .tc .vmem S32x256x128 .bf16) → arg6.IsWhole → DmaSems sig S2x2 → DmaSems sig S16 → DmaSems sig S32 → β

/-- A part on the kernel's buffers. -/
abbrev onWhole {β : Type 1} (f : PartFn β) : β :=
  f (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6

end Cert.A2A

end
-- ==== Proof.Join.lean ====
/-
  The buffers cut into the parts the steps use, and put together again.
-/
module

public import proofs.«01_k».proof.Proof.Moves

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

theorem off2_zero : (![0, 0] : Fin 2 → ℕ) = fun _ => 0 := by funext a; fin_cases a <;> rfl
theorem off3_zero : (![0, 0, 0] : Fin 3 → ℕ) = fun _ => 0 := by funext a; fin_cases a <;> rfl

/-! ## The receive buffer -/

theorem erase_eq_rot : Finset.univ.erase c = (Finset.Ico 1 32).image (rot c) := by
  revert c; decide +kernel

/-- The devices: `c`, then the others in the order they follow it. -/
theorem all_rot (A : Dev nD → sProp 𝕄) :
    bigSep Finset.univ A = iprop(A c ∗ bigSep (Finset.Ico 1 32) (fun q => A (rot c q))) := by
  rw [bigSep_univ_split c, erase_eq_rot, bigSep_image_of_injOn]
  · rfl
  · intro a ha b hb h
    rw [Finset.mem_coe, Finset.mem_Ico] at ha hb
    exact rot_inj c a b ha.2 hb.2 h

theorem slot_disjoint : ∀ d ∈ (Finset.univ : Finset (Dev nD)), ∀ d' ∈ (Finset.univ : Finset (Dev nD)), d ≠ d' → Disjoint (slotSet d) (slotSet d') := by
  intro d _ d' _ hne
  refine Finset.disjoint_left.mpr fun i hi hi' => hne (Fin.ext ?_)
  unfold slotSet at hi hi'
  rw [Finset.mem_filter] at hi hi'
  omega

theorem slot_union : (Finset.univ : Finset (Dev nD)).biUnion slotSet = Finset.univ := by
  ext i
  simp only [Finset.mem_biUnion, Finset.mem_univ, true_and, iff_true]
  refine ⟨(i 0 : Fin 32), ?_⟩
  unfold slotSet
  rw [Finset.mem_filter]
  exact ⟨Finset.mem_univ _, rfl⟩

/-- The receive buffer, slot by slot. -/
theorem recv_slots (f : Buf (Elt F) ((c : Thread nD τ).loc cc0_scratch3)) :
    (((c : Thread nD τ).loc cc0_scratch3) ↦{fullShare} f : sProp 𝕄)
      = iprop((((c : Thread nD τ).loc cc0_scratch3) ↦[slotSet c]{fullShare} f)
        ∗ bigSep (Finset.Ico 1 32) (fun q => ((c : Thread nD τ).loc cc0_scratch3) ↦[slotSet (rot c q)]{fullShare} f)) := by
  rw [← all_rot c (fun d => ((c : Thread nD τ).loc cc0_scratch3) ↦[slotSet d]{fullShare} f)]
  have h := pointsTo_biUnion (Ix := Unit) (Name := ℕ) (U := UU) (Lvl := ℕ) (ℓ := (c : Thread nD τ).loc cc0_scratch3) (q := fullShare) (f := f)
    (Finset.univ : Finset (Dev nD)) slotSet slot_disjoint
  rw [← h]
  exact congrArg (fun S => (((c : Thread nD τ).loc cc0_scratch3) ↦[S]{fullShare} f : sProp 𝕄)) slot_union.symm

theorem slot_raw (d : Dev nD) (f : Buf (Elt F) ((c : Thread nD τ).loc cc0_scratch3)) :
    (((c : Thread nD τ).loc cc0_scratch3) ↦[slotSet d]{fullShare} f) ⊢ rawSlot (F := F) c d := by
  unfold rawSlot; iintro H; iexists f; iexact H

theorem recv_raw (f : Buf (Elt F) ((c : Thread nD τ).loc cc0_scratch3)) :
    (((c : Thread nD τ).loc cc0_scratch3) ↦{fullShare} f)
      ⊢ iprop(rawSlot (F := F) c c ∗ bigSep (Finset.Ico 1 32) (fun q => rawSlot (F := F) c (rot c q))) := by
  refine (Entails.of_eq (recv_slots c f)).trans (BI.sep_mono (slot_raw c c f) (bigSep_mono fun q _ => slot_raw c (rot c q) f))

/-- The receive semaphores after their waits. -/
def rcvdPos : sProp 𝕄 := bigSep (Finset.Ico 1 32) (fun q => atPos ER (recvCell c (rot c q)) 1 ∅ 0)

/-- Every block here: the receive buffer is full. -/
theorem recv_full : iprop(Rcv m ρ c 32 ∗ gotSlot m ρ c c) ⊢ iprop(rcvdPos c ∗ Full m ρ c) := by
  unfold Rcv rcvdPos Full
  have hsep : bigSep (Finset.Ico 1 32) (rcvdAt m ρ c)
      = iprop(bigSep (Finset.Ico 1 32) (fun q => atPos ER (recvCell c (rot c q)) 1 ∅ 0) ∗ bigSep (Finset.Ico 1 32) (fun q => gotSlot m ρ c (rot c q))) := by
    unfold rcvdAt; exact bigSep_sep _ _ _
  iintro ⟨⟨-, HV⟩, HM⟩
  ihave ⟨HA, HV⟩ := (Entails.of_eq hsep) $$ HV
  isplitl [HA]; · iexact HA
  iapply (Entails.of_eq (recv_slots c (RB m ρ c)).symm)
  unfold gotSlot
  isplitl [HM]; · iexact HM
  iexact HV

/-! ## The send buffer -/

theorem ys_disjoint : Disjoint (ysSlot 0) (ysSlot 1) := by
  refine Finset.disjoint_left.mpr fun i hi hi' => ?_
  unfold ysSlot at hi hi'
  rw [Finset.mem_filter] at hi hi'
  omega

theorem ys_union : ysSlot 0 ∪ ysSlot 1 = Finset.univ := by
  ext i
  unfold ysSlot
  simp only [Finset.mem_union, Finset.mem_filter, Finset.mem_univ, true_and, iff_true]
  have : (i 0).val < 2 := (i 0).isLt
  omega

theorem rawY_intro (b : ℕ) (f : Buf (Elt F) ((c : Thread nD τ).loc cc0_scratch2)) :
    (((c : Thread nD τ).loc cc0_scratch2) ↦[ysSlot b]{fullShare} f) ⊢ RawY (F := F) c b := by
  unfold RawY; iintro H; iexists f; iexact H

theorem ys_split (f : Buf (Elt F) ((c : Thread nD τ).loc cc0_scratch2)) :
    (((c : Thread nD τ).loc cc0_scratch2) ↦{fullShare} f) ⊢ iprop(RawY (F := F) c 0 ∗ RawY (F := F) c 1) := by
  have h := (pointsTo_union (Ix := Unit) (Name := ℕ) (U := UU) (Lvl := ℕ) (ℓ := (c : Thread nD τ).loc cc0_scratch2) (q := fullShare) (f := f) ys_disjoint).1
  refine (Entails.of_eq (congrArg (fun S => (((c : Thread nD τ).loc cc0_scratch2) ↦[S]{fullShare} f : sProp 𝕄)) ys_union.symm)).trans (h.trans (BI.sep_mono (rawY_intro c 0 f) (rawY_intro c 1 f)))

theorem ys_whole : iprop(RawY (F := F) c 0 ∗ RawY (F := F) c 1)
    ⊢ iprop(∃ f : Buf (Elt F) ((c : Thread nD τ).loc cc0_scratch2), ((c : Thread nD τ).loc cc0_scratch2) ↦{fullShare} f) := by
  unfold RawY
  iintro ⟨⟨%f, H⟩, ⟨%g, H'⟩⟩
  ihave HJ := (pointsTo_join (Ix := Unit) (Name := ℕ) (U := UU) (Lvl := ℕ) (ℓ := (c : Thread nD τ).loc cc0_scratch2) (q := fullShare) (f := f) (g := g) ys_disjoint) $$ [H H']
  · iframe
  iexists _
  iapply (Entails.of_eq (congrArg (fun S => (((c : Thread nD τ).loc cc0_scratch2) ↦[S]{fullShare} ((ysSlot 1).piecewise g f) : sProp 𝕄)) ys_union)) $$ HJ

/-! ## The weight buffer and the shares of the weights -/

theorem slots_disjoint : Disjoint (half 0 0 ∪ half 0 1) (half 1 0 ∪ half 1 1) := by
  refine Finset.disjoint_left.mpr fun i hi hi' => ?_
  unfold half at hi hi'
  simp only [Finset.mem_union, Finset.mem_filter, Finset.mem_univ, true_and, Fin.val_zero, Fin.val_one] at hi hi'
  omega

theorem halves_union : (half 0 0 ∪ half 0 1) ∪ (half 1 0 ∪ half 1 1) = Finset.univ := by
  ext i
  unfold half
  simp only [Finset.mem_union, Finset.mem_filter, Finset.mem_univ, true_and, iff_true, Fin.val_zero, Fin.val_one]
  have h0 : (i 0).val < 2 := (i 0).isLt
  have h1 : (i 1).val < 2048 := (i 1).isLt
  omega

/-- Two parts of the weight buffer, put together. -/
theorem wb_join {I J : Finset S2x2048x1024.Idx} (h : Disjoint I J) :
    iprop((∃ f : Buf (Elt F) ((c : Thread nD τ).loc cc0_scratch1), ((c : Thread nD τ).loc cc0_scratch1) ↦[I]{fullShare} f)
        ∗ (∃ f : Buf (Elt F) ((c : Thread nD τ).loc cc0_scratch1), ((c : Thread nD τ).loc cc0_scratch1) ↦[J]{fullShare} f))
      ⊢ (iprop(∃ f : Buf (Elt F) ((c : Thread nD τ).loc cc0_scratch1), ((c : Thread nD τ).loc cc0_scratch1) ↦[I ∪ J]{fullShare} f) : sProp 𝕄) := by
  iintro ⟨⟨%f, H⟩, ⟨%g, H'⟩⟩
  ihave HJ := (pointsTo_join (Ix := Unit) (Name := ℕ) (U := UU) (Lvl := ℕ) (ℓ := (c : Thread nD τ).loc cc0_scratch1) (q := fullShare) (f := f) (g := g) h) $$ [H H']
  · iframe
  iexists _; iexact HJ

/-- A part of the weight buffer, cut in two. -/
theorem wb_cut {I J : Finset S2x2048x1024.Idx} (h : Disjoint I J) :
    (iprop(∃ f : Buf (Elt F) ((c : Thread nD τ).loc cc0_scratch1), ((c : Thread nD τ).loc cc0_scratch1) ↦[I ∪ J]{fullShare} f) : sProp 𝕄)
      ⊢ iprop((∃ f : Buf (Elt F) ((c : Thread nD τ).loc cc0_scratch1), ((c : Thread nD τ).loc cc0_scratch1) ↦[I]{fullShare} f)
        ∗ (∃ f : Buf (Elt F) ((c : Thread nD τ).loc cc0_scratch1), ((c : Thread nD τ).loc cc0_scratch1) ↦[J]{fullShare} f)) := by
  iintro ⟨%f, H⟩
  ihave ⟨H, H'⟩ := (pointsTo_union (Ix := Unit) (Name := ℕ) (U := UU) (Lvl := ℕ) (ℓ := (c : Thread nD τ).loc cc0_scratch1) (q := fullShare) (f := f) h).1 $$ H
  isplitl [H]
  · iexists f; iexact H
  · iexists f; iexact H'

theorem whole_halves :
    (iprop(∃ f : Buf (Elt F) ((c : Thread nD τ).loc cc0_scratch1), ((c : Thread nD τ).loc cc0_scratch1) ↦{fullShare} f) : sProp 𝕄)
      = iprop(∃ f : Buf (Elt F) ((c : Thread nD τ).loc cc0_scratch1), ((c : Thread nD τ).loc cc0_scratch1) ↦[(half 0 0 ∪ half 0 1) ∪ (half 1 0 ∪ half 1 1)]{fullShare} f) :=
  congrArg (fun S => (iprop(∃ f : Buf (Elt F) ((c : Thread nD τ).loc cc0_scratch1), ((c : Thread nD τ).loc cc0_scratch1) ↦[S]{fullShare} f) : sProp 𝕄)) halves_union.symm

theorem four (A : Fin 4 → sProp 𝕄) : bigSep Finset.univ A = iprop(A 0 ∗ A 1 ∗ A 2 ∗ A 3) := by
  rw [show (Finset.univ : Finset (Fin 4)) = {0, 1, 2, 3} by decide, bigSep_insert (by decide), bigSep_insert (by decide), bigSep_insert (by decide), bigSep_singleton]
  rfl

/-- The share of the weights no lane holds. -/
def restW : sProp 𝕄 := ((c : Thread nD τ).loc main_arg1) ↦{Transfers.shareDrop fullShare 4} (Wm m c)

theorem weights_shares :
    (((c : Thread nD τ).loc main_arg1) ↦{fullShare} (Wm m c) : sProp 𝕄)
      ⊣⊢ iprop(restW m c ∗ laneW m c 0 0 ∗ laneW m c 0 1 ∗ laneW m c 1 0 ∗ laneW m c 1 1) := by
  have h := Transfers.pointsTo_toks (Ix := Unit) (Name := ℕ) (U := UU) (Lvl := ℕ) (ℓ := (c : Thread nD τ).loc main_arg1) (S := Finset.univ) (f := Wm m c) fullShare 4
  rw [four] at h
  exact h

/-- The weight buffer, the four lanes' semaphores and the weights: the lanes at rest. -/
theorem lanes_intro :
    iprop((∃ f : Buf (Elt F) ((c : Thread nD τ).loc cc0_scratch1), ((c : Thread nD τ).loc cc0_scratch1) ↦{fullShare} f)
        ∗ (((c : Thread nD τ).loc main_arg1) ↦{fullShare} (Wm m c))
        ∗ semVal ((c : Thread nD τ), laneSem 0 0) 0 ∗ semVal ((c : Thread nD τ), laneSem 0 1) 0
        ∗ semVal ((c : Thread nD τ), laneSem 1 0) 0 ∗ semVal ((c : Thread nD τ), laneSem 1 1) 0)
      ⊢ iprop(restW m c ∗ LRaw m c 0 0 ∗ LRaw m c 0 1 ∗ LRaw m c 1 0 ∗ LRaw m c 1 1) := by
  iintro ⟨HB, HW, S00, S01, S10, S11⟩
  ihave HB := (Entails.of_eq (whole_halves c)) $$ HB
  ihave ⟨H0, H1⟩ := (wb_cut c slots_disjoint) $$ HB
  ihave ⟨H00, H01⟩ := (wb_cut c (half_disjoint 0)) $$ H0
  ihave ⟨H10, H11⟩ := (wb_cut c (half_disjoint 1)) $$ H1
  ihave ⟨HR, W00, W01, W10, W11⟩ := (weights_shares m c).1 $$ HW
  unfold LRaw
  iframe

theorem lanes_elim :
    iprop(restW m c ∗ LRaw m c 0 0 ∗ LRaw m c 0 1 ∗ LRaw m c 1 0 ∗ LRaw m c 1 1)
      ⊢ iprop((∃ f : Buf (Elt F) ((c : Thread nD τ).loc cc0_scratch1), ((c : Thread nD τ).loc cc0_scratch1) ↦{fullShare} f)
        ∗ (((c : Thread nD τ).loc main_arg1) ↦{fullShare} (Wm m c))
        ∗ semVal ((c : Thread nD τ), laneSem 0 0) 0 ∗ semVal ((c : Thread nD τ), laneSem 0 1) 0
        ∗ semVal ((c : Thread nD τ), laneSem 1 0) 0 ∗ semVal ((c : Thread nD τ), laneSem 1 1) 0) := by
  unfold LRaw
  iintro ⟨HR, ⟨S00, H00, W00⟩, ⟨S01, H01, W01⟩, ⟨S10, H10, W10⟩, ⟨S11, H11, W11⟩⟩
  ihave HW := (weights_shares m c).2 $$ [HR W00 W01 W10 W11]
  · iframe
  ihave H0 := (wb_join c (half_disjoint 0)) $$ [H00 H01]
  · iframe
  ihave H1 := (wb_join c (half_disjoint 1)) $$ [H10 H11]
  · iframe
  ihave HB := (wb_join c slots_disjoint) $$ [H0 H1]
  · iframe
  ihave HB := (Entails.of_eq (whole_halves c).symm) $$ HB
  iframe

end Cert.A2A

end
-- ==== Proof.Parts1.lean ====
/-
  The body's first half, part by part: the signals, the barrier, the first two groups of columns.
-/
module

public import proofs.«01_k».proof.Proof.Join

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

theorem part1
    {α : Type} {Q : α → sProp 𝕄} {k : (Σ' (d0 : Dev nD) (v2 : BitVec 32) (v3 : BitVec 32) (v4 : Sems sig S_), BitVec 32) → Prog (TpuEff nD τ sig (Elt F) Λ₀ .tc) α} :
    SigS m ρ K c 1
      ⊢ iprop((∀ r1, ∀ r2, ∀ r3, SigS m ρ K c 6 -∗ WP c (k ⟨c, r1, r2, (SemArray.scalar (sig.barrier 0 rfl)), r3⟩) Q)
        -∗ WP c (onWhole (k0_part1 (F := F))  >>= k) Q) := by
  simp only [k0_part1_eq_skeleton, k0_part1_skel, semSignalWord, semWaitWord, Prog.lift, Prog.bind_op, Prog.bind_ret, Prog.pure_eq_ret, bind_assoc, pure_bind, wp_deviceId]
  iintro HE Hk
  iapply (mv_signal m ρ K c 1 (by decide) (d := ⟨k0_dev1 c, k0_dev1_lt c⟩) (Fin.ext (k0_dev1_eq c)) rfl rfl) $$ HE; iintro HE
  iapply (mv_signal m ρ K c 2 (by decide) (d := ⟨k0_dev2 c, k0_dev2_lt c⟩) (Fin.ext (k0_dev2_eq c)) rfl rfl) $$ HE; iintro HE
  iapply (mv_signal m ρ K c 3 (by decide) (d := ⟨k0_dev3 c, k0_dev3_lt c⟩) (Fin.ext (k0_dev3_eq c)) rfl rfl) $$ HE; iintro HE
  iapply (mv_signal m ρ K c 4 (by decide) (d := ⟨k0_dev4 c, k0_dev4_lt c⟩) (Fin.ext (k0_dev4_eq c)) rfl rfl) $$ HE; iintro HE
  iapply (mv_signal m ρ K c 5 (by decide) (d := ⟨k0_dev5 c, k0_dev5_lt c⟩) (Fin.ext (k0_dev5_eq c)) rfl rfl) $$ HE; iintro HE
  iapply Hk $$ HE

theorem part2 {v2 : BitVec 32} {v4 : Sems sig S_} {c6_i32 : BitVec 32} (hv4 : v4.sem = barrier0)
    {α : Type} {Q : α → sProp 𝕄} {k : (BitVec 32) → Prog (TpuEff nD τ sig (Elt F) Λ₀ .tc) α} :
    SigS m ρ K c 6
      ⊢ iprop((∀ r1, SigS m ρ K c 12 -∗ WP c (k r1) Q)
        -∗ WP c (onWhole (k0_part2 (F := F)) c v2 v4 c6_i32 >>= k) Q) := by
  simp only [k0_part2_eq_skeleton, k0_part2_skel, semSignalWord, semWaitWord, Prog.lift, Prog.bind_op, Prog.bind_ret, Prog.pure_eq_ret, bind_assoc, pure_bind]
  iintro HE Hk
  iapply (mv_signal m ρ K c 6 (by decide) (d := ⟨k0_dev6 c, k0_dev6_lt c⟩) (Fin.ext (k0_dev6_eq c)) hv4 rfl) $$ HE; iintro HE
  iapply (mv_signal m ρ K c 7 (by decide) (d := ⟨k0_dev7 c, k0_dev7_lt c⟩) (Fin.ext (k0_dev7_eq c)) hv4 rfl) $$ HE; iintro HE
  iapply (mv_signal m ρ K c 8 (by decide) (d := ⟨k0_dev8 c, k0_dev8_lt c⟩) (Fin.ext (k0_dev8_eq c)) hv4 rfl) $$ HE; iintro HE
  iapply (mv_signal m ρ K c 9 (by decide) (d := ⟨k0_dev9 c, k0_dev9_lt c⟩) (Fin.ext (k0_dev9_eq c)) hv4 rfl) $$ HE; iintro HE
  iapply (mv_signal m ρ K c 10 (by decide) (d := ⟨k0_dev10 c, k0_dev10_lt c⟩) (Fin.ext (k0_dev10_eq c)) hv4 rfl) $$ HE; iintro HE
  iapply (mv_signal m ρ K c 11 (by decide) (d := ⟨k0_dev11 c, k0_dev11_lt c⟩) (Fin.ext (k0_dev11_eq c)) hv4 rfl) $$ HE; iintro HE
  iapply Hk $$ HE

theorem part3 {v2 : BitVec 32} {v4 : Sems sig S_} {c12_i32 : BitVec 32} (hv4 : v4.sem = barrier0)
    {α : Type} {Q : α → sProp 𝕄} {k : (BitVec 32) → Prog (TpuEff nD τ sig (Elt F) Λ₀ .tc) α} :
    SigS m ρ K c 12
      ⊢ iprop((∀ r1, SigS m ρ K c 18 -∗ WP c (k r1) Q)
        -∗ WP c (onWhole (k0_part3 (F := F)) c v2 v4 c12_i32 >>= k) Q) := by
  simp only [k0_part3_eq_skeleton, k0_part3_skel, semSignalWord, semWaitWord, Prog.lift, Prog.bind_op, Prog.bind_ret, Prog.pure_eq_ret, bind_assoc, pure_bind]
  iintro HE Hk
  iapply (mv_signal m ρ K c 12 (by decide) (d := ⟨k0_dev12 c, k0_dev12_lt c⟩) (Fin.ext (k0_dev12_eq c)) hv4 rfl) $$ HE; iintro HE
  iapply (mv_signal m ρ K c 13 (by decide) (d := ⟨k0_dev13 c, k0_dev13_lt c⟩) (Fin.ext (k0_dev13_eq c)) hv4 rfl) $$ HE; iintro HE
  iapply (mv_signal m ρ K c 14 (by decide) (d := ⟨k0_dev14 c, k0_dev14_lt c⟩) (Fin.ext (k0_dev14_eq c)) hv4 rfl) $$ HE; iintro HE
  iapply (mv_signal m ρ K c 15 (by decide) (d := ⟨k0_dev15 c, k0_dev15_lt c⟩) (Fin.ext (k0_dev15_eq c)) hv4 rfl) $$ HE; iintro HE
  iapply (mv_signal m ρ K c 16 (by decide) (d := ⟨k0_dev16 c, k0_dev16_lt c⟩) (Fin.ext (k0_dev16_eq c)) hv4 rfl) $$ HE; iintro HE
  iapply (mv_signal m ρ K c 17 (by decide) (d := ⟨k0_dev17 c, k0_dev17_lt c⟩) (Fin.ext (k0_dev17_eq c)) hv4 rfl) $$ HE; iintro HE
  iapply Hk $$ HE

theorem part4 {v2 : BitVec 32} {v4 : Sems sig S_} {c18_i32 : BitVec 32} (hv4 : v4.sem = barrier0)
    {α : Type} {Q : α → sProp 𝕄} {k : (BitVec 32) → Prog (TpuEff nD τ sig (Elt F) Λ₀ .tc) α} :
    SigS m ρ K c 18
      ⊢ iprop((∀ r1, SigS m ρ K c 24 -∗ WP c (k r1) Q)
        -∗ WP c (onWhole (k0_part4 (F := F)) c v2 v4 c18_i32 >>= k) Q) := by
  simp only [k0_part4_eq_skeleton, k0_part4_skel, semSignalWord, semWaitWord, Prog.lift, Prog.bind_op, Prog.bind_ret, Prog.pure_eq_ret, bind_assoc, pure_bind]
  iintro HE Hk
  iapply (mv_signal m ρ K c 18 (by decide) (d := ⟨k0_dev18 c, k0_dev18_lt c⟩) (Fin.ext (k0_dev18_eq c)) hv4 rfl) $$ HE; iintro HE
  iapply (mv_signal m ρ K c 19 (by decide) (d := ⟨k0_dev19 c, k0_dev19_lt c⟩) (Fin.ext (k0_dev19_eq c)) hv4 rfl) $$ HE; iintro HE
  iapply (mv_signal m ρ K c 20 (by decide) (d := ⟨k0_dev20 c, k0_dev20_lt c⟩) (Fin.ext (k0_dev20_eq c)) hv4 rfl) $$ HE; iintro HE
  iapply (mv_signal m ρ K c 21 (by decide) (d := ⟨k0_dev21 c, k0_dev21_lt c⟩) (Fin.ext (k0_dev21_eq c)) hv4 rfl) $$ HE; iintro HE
  iapply (mv_signal m ρ K c 22 (by decide) (d := ⟨k0_dev22 c, k0_dev22_lt c⟩) (Fin.ext (k0_dev22_eq c)) hv4 rfl) $$ HE; iintro HE
  iapply (mv_signal m ρ K c 23 (by decide) (d := ⟨k0_dev23 c, k0_dev23_lt c⟩) (Fin.ext (k0_dev23_eq c)) hv4 rfl) $$ HE; iintro HE
  iapply Hk $$ HE

theorem part5 {v2 : BitVec 32} {v4 : Sems sig S_} {c24_i32 : BitVec 32} (hv4 : v4.sem = barrier0)
    {α : Type} {Q : α → sProp 𝕄} {k : (BitVec 32) → Prog (TpuEff nD τ sig (Elt F) Λ₀ .tc) α} :
    SigS m ρ K c 24
      ⊢ iprop((∀ r1, SigS m ρ K c 30 -∗ WP c (k r1) Q)
        -∗ WP c (onWhole (k0_part5 (F := F)) c v2 v4 c24_i32 >>= k) Q) := by
  simp only [k0_part5_eq_skeleton, k0_part5_skel, semSignalWord, semWaitWord, Prog.lift, Prog.bind_op, Prog.bind_ret, Prog.pure_eq_ret, bind_assoc, pure_bind]
  iintro HE Hk
  iapply (mv_signal m ρ K c 24 (by decide) (d := ⟨k0_dev24 c, k0_dev24_lt c⟩) (Fin.ext (k0_dev24_eq c)) hv4 rfl) $$ HE; iintro HE
  iapply (mv_signal m ρ K c 25 (by decide) (d := ⟨k0_dev25 c, k0_dev25_lt c⟩) (Fin.ext (k0_dev25_eq c)) hv4 rfl) $$ HE; iintro HE
  iapply (mv_signal m ρ K c 26 (by decide) (d := ⟨k0_dev26 c, k0_dev26_lt c⟩) (Fin.ext (k0_dev26_eq c)) hv4 rfl) $$ HE; iintro HE
  iapply (mv_signal m ρ K c 27 (by decide) (d := ⟨k0_dev27 c, k0_dev27_lt c⟩) (Fin.ext (k0_dev27_eq c)) hv4 rfl) $$ HE; iintro HE
  iapply (mv_signal m ρ K c 28 (by decide) (d := ⟨k0_dev28 c, k0_dev28_lt c⟩) (Fin.ext (k0_dev28_eq c)) hv4 rfl) $$ HE; iintro HE
  iapply (mv_signal m ρ K c 29 (by decide) (d := ⟨k0_dev29 c, k0_dev29_lt c⟩) (Fin.ext (k0_dev29_eq c)) hv4 rfl) $$ HE; iintro HE
  iapply Hk $$ HE

theorem part6 (q : PosShare TreeShare) (f0 : Buf (Elt F) ((c : Thread nD τ).loc cc0_scratch0)) {v2 : BitVec 32} {v3 : BitVec 32} {v4 : Sems sig S_} {c30_i32 : BitVec 32} (hv4 : v4.sem = barrier0)
    {α : Type} {Q : α → sProp 𝕄} {k : (PUnit) → Prog (TpuEff nD τ sig (Elt F) Λ₀ .tc) α} :
    SigS m ρ K c 30
      ⊢ iprop(Bar0 (F := F) c -∗ bigSep (Finset.Ico 1 17) (posAt (F := F) c) -∗ (((c : Thread nD τ).loc cc0_stg0_0) ↦{q} (xstg m ρ c)) -∗ (((c : Thread nD τ).loc cc0_scratch0) ↦{fullShare} f0) -∗ LRaw m c 0 0 -∗ (St m ρ K c 1 1 1 1 -∗ atPos ER (barCell c) 1 ∅ 0 -∗ (((c : Thread nD τ).loc cc0_stg0_0) ↦{q} (xstg m ρ c)) -∗ XS m ρ c -∗ LFly m c 0 0 0 -∗ WP c (k ⟨⟩) Q)
        -∗ WP c (onWhole (k0_part6 (F := F)) c v2 v3 v4 c30_i32 >>= k) Q) := by
  simp only [k0_part6_eq_skeleton, k0_part6_skel, semSignalWord, semWaitWord, Prog.lift, Prog.bind_op, Prog.bind_ret, Prog.pure_eq_ret, bind_assoc, pure_bind]
  iintro HE HB HP HI HX L00 Hk
  iapply (mv_signal m ρ K c 30 (by decide) (d := ⟨k0_dev30 c, k0_dev30_lt c⟩) (Fin.ext (k0_dev30_eq c)) hv4 rfl) $$ HE; iintro HE
  iapply (mv_signal m ρ K c 31 (by decide) (d := ⟨k0_dev31 c, k0_dev31_lt c⟩) (Fin.ext (k0_dev31_eq c)) hv4 rfl) $$ HE; iintro HE
  iapply (mv_bar m ρ K c hv4 rfl) $$ HE HB HP; iintro HE HA
  iapply (step_load_in c (xstg m ρ c) off2_zero) $$ HI; iintro HI
  iapply (step_load_x c f0) $$ HX; iintro %_ HX
  iapply (step_store_x m ρ c f0 off2_zero) $$ HX; iintro HX
  iapply (step_wstart m c 0 0 0 (k0_off1_eq c 0) rfl (lane_sem _ _ 0 0 rfl)) $$ L00; iintro L00
  iapply Hk $$ HE HA HI HX L00

theorem part7 {v3 : BitVec 32}
    {α : Type} {Q : α → sProp 𝕄} {k : (BitVec 32) → Prog (TpuEff nD τ sig (Elt F) Λ₀ .tc) α} :
    LRaw m c 0 1
      ⊢ iprop(LRaw m c 1 0 -∗ LRaw m c 1 1 -∗ St m ρ K c 1 1 1 1 -∗ LFly m c 0 0 0 -∗ (∀ r1, LFly m c 0 1 0 -∗ LFly m c 1 0 1 -∗ LFly m c 1 1 1 -∗ St m ρ K c 1 1 1 1 -∗ LGot m c 0 0 0 -∗ WP c (k r1) Q)
        -∗ WP c (onWhole (k0_part7 (F := F)) c v3 >>= k) Q) := by
  simp only [k0_part7_eq_skeleton, k0_part7_skel, semSignalWord, semWaitWord, Prog.lift, Prog.bind_op, Prog.bind_ret, Prog.pure_eq_ret, bind_assoc, pure_bind]
  iintro L01 L10 L11 HE L00 Hk
  iapply (step_wstart m c 0 1 0 (k0_off2_eq c 0) rfl (lane_sem _ _ 0 1 rfl)) $$ L01; iintro L01
  iapply (step_wstart m c 1 0 1 (k0_off3_eq c 0) rfl (lane_sem _ _ 1 0 rfl)) $$ L10; iintro L10
  iapply (step_wstart m c 1 1 1 (k0_off4_eq c 0) rfl (lane_sem _ _ 1 1 rfl)) $$ L11; iintro L11
  iapply (mv_wwait m ρ K c 1 1 1 1 0 0 0 (lane_sem _ _ 0 0 rfl) rfl) $$ HE L00; iintro HE L00
  iapply Hk $$ L01 L10 L11 HE L00

theorem part8 {v3 : BitVec 32}
    {α : Type} {Q : α → sProp 𝕄} {k : (FVec F S256x1024 .f32) → Prog (TpuEff nD τ sig (Elt F) Λ₀ .tc) α} :
    St m ρ K c 1 1 1 1
      ⊢ iprop(LFly m c 0 1 0 -∗ XS m ρ c -∗ LGot m c 0 0 0 -∗ LFly m c 1 0 1 -∗ (St m ρ K c 1 1 1 1 -∗ LFly m c 0 1 2 -∗ XS m ρ c -∗ LFly m c 0 0 2 -∗ LGot m c 1 0 1 -∗ WP c (k (k0_pay2 (xs m ρ c 0) (wb m c 0))) Q)
        -∗ WP c (onWhole (k0_part8 (F := F)) c v3 >>= k) Q) := by
  simp only [k0_part8_eq_skeleton, k0_part8_skel, semSignalWord, semWaitWord, Prog.lift, Prog.bind_op, Prog.bind_ret, Prog.pure_eq_ret, bind_assoc, pure_bind]
  iintro HE L01 HX L00 L10 Hk
  iapply (mv_wwait m ρ K c 1 1 1 1 0 1 0 (lane_sem _ _ 0 1 rfl) rfl) $$ HE L01; iintro HE L01
  iapply (step_xload m ρ c 0 (by decide) rfl) $$ HX; iintro HX
  iapply (mv_wload m c 0 0 rfl) $$ L00 L01; iintro L00 L01
  iapply (mv_restart m c 0 0 0 2 (k0_off5_eq c 0) rfl (lane_sem _ _ 0 0 rfl)) $$ L00; iintro L00
  iapply (mv_restart m c 0 0 1 2 (k0_off6_eq c 0) rfl (lane_sem _ _ 0 1 rfl)) $$ L01; iintro L01
  iapply (mv_wwait m ρ K c 1 1 1 1 1 0 1 (lane_sem _ _ 1 0 rfl) rfl) $$ HE L10; iintro HE L10
  iapply Hk $$ HE L01 HX L00 L10

theorem part9 {v3 : BitVec 32} {v177 : FVec F S256x1024 .f32}
    {α : Type} {Q : α → sProp 𝕄} {k : (FVec F S256x1024 .f32) → Prog (TpuEff nD τ sig (Elt F) Λ₀ .tc) α} :
    St m ρ K c 1 1 1 1
      ⊢ iprop(LFly m c 1 1 1 -∗ XS m ρ c -∗ LGot m c 1 0 1 -∗ (St m ρ K c 1 1 1 1 -∗ LFly m c 1 1 3 -∗ XS m ρ c -∗ LFly m c 1 0 3 -∗ WP c (k (k0_pay3 v177 (xs m ρ c 1) (wb m c 1))) Q)
        -∗ WP c (onWhole (k0_part9 (F := F)) c v3 v177 >>= k) Q) := by
  simp only [k0_part9_eq_skeleton, k0_part9_skel, semSignalWord, semWaitWord, Prog.lift, Prog.bind_op, Prog.bind_ret, Prog.pure_eq_ret, bind_assoc, pure_bind]
  iintro HE L11 HX L10 Hk
  iapply (mv_wwait m ρ K c 1 1 1 1 1 1 1 (lane_sem _ _ 1 1 rfl) rfl) $$ HE L11; iintro HE L11
  iapply (step_xload m ρ c 1 (by decide) rfl) $$ HX; iintro HX
  iapply (mv_wload m c 1 1 rfl) $$ L10 L11; iintro L10 L11
  iapply (mv_restart m c 1 1 0 3 (k0_off7_eq c 0) rfl (lane_sem _ _ 1 0 rfl)) $$ L10; iintro L10
  iapply (mv_restart m c 1 1 1 3 (k0_off8_eq c 0) rfl (lane_sem _ _ 1 1 rfl)) $$ L11; iintro L11
  iapply Hk $$ HE L11 HX L10

theorem part10 {v3 : BitVec 32} {v220 : FVec F S256x1024 .f32}
    {α : Type} {Q : α → sProp 𝕄} {k : (FVec F S256x1024 .f32) → Prog (TpuEff nD τ sig (Elt F) Λ₀ .tc) α} :
    St m ρ K c 1 1 1 1
      ⊢ iprop(LFly m c 0 0 2 -∗ LFly m c 0 1 2 -∗ XS m ρ c -∗ (St m ρ K c 1 1 1 1 -∗ LFly m c 0 0 4 -∗ LFly m c 0 1 4 -∗ XS m ρ c -∗ WP c (k (k0_pay4 v220 (xs m ρ c 2) (wb m c 2))) Q)
        -∗ WP c (onWhole (k0_part10 (F := F)) c v3 v220 >>= k) Q) := by
  simp only [k0_part10_eq_skeleton, k0_part10_skel, semSignalWord, semWaitWord, Prog.lift, Prog.bind_op, Prog.bind_ret, Prog.pure_eq_ret, bind_assoc, pure_bind]
  iintro HE L00 L01 HX Hk
  iapply (mv_wwait m ρ K c 1 1 1 1 0 0 2 (lane_sem _ _ 0 0 rfl) rfl) $$ HE L00; iintro HE L00
  iapply (mv_wwait m ρ K c 1 1 1 1 0 1 2 (lane_sem _ _ 0 1 rfl) rfl) $$ HE L01; iintro HE L01
  iapply (step_xload m ρ c 2 (by decide) rfl) $$ HX; iintro HX
  iapply (mv_wload m c 0 2 rfl) $$ L00 L01; iintro L00 L01
  iapply (mv_restart m c 2 0 0 4 (k0_off1_eq c 1) rfl (lane_sem _ _ 0 0 rfl)) $$ L00; iintro L00
  iapply (mv_restart m c 2 0 1 4 (k0_off2_eq c 1) rfl (lane_sem _ _ 0 1 rfl)) $$ L01; iintro L01
  iapply Hk $$ HE L00 L01 HX

theorem part11 {v3 : BitVec 32}
    {α : Type} {Q : α → sProp 𝕄} {k : (FVec F S256x1024 .f32) → Prog (TpuEff nD τ sig (Elt F) Λ₀ .tc) α} :
    St m ρ K c 1 1 1 1
      ⊢ iprop(LFly m c 1 0 3 -∗ LFly m c 1 1 3 -∗ XS m ρ c -∗ (St m ρ K c 1 1 1 1 -∗ LFly m c 1 0 5 -∗ LGot m c 1 1 3 -∗ XS m ρ c -∗ WP c (k (k0_pay5 (xs m ρ c 3) (wb m c 3))) Q)
        -∗ WP c (onWhole (k0_part11 (F := F)) c v3 >>= k) Q) := by
  simp only [k0_part11_eq_skeleton, k0_part11_skel, semSignalWord, semWaitWord, Prog.lift, Prog.bind_op, Prog.bind_ret, Prog.pure_eq_ret, bind_assoc, pure_bind]
  iintro HE L10 L11 HX Hk
  iapply (mv_wwait m ρ K c 1 1 1 1 1 0 3 (lane_sem _ _ 1 0 rfl) rfl) $$ HE L10; iintro HE L10
  iapply (mv_wwait m ρ K c 1 1 1 1 1 1 3 (lane_sem _ _ 1 1 rfl) rfl) $$ HE L11; iintro HE L11
  iapply (step_xload m ρ c 3 (by decide) rfl) $$ HX; iintro HX
  iapply (mv_wload m c 1 3 rfl) $$ L10 L11; iintro L10 L11
  iapply (mv_restart m c 3 1 0 5 (k0_off3_eq c 1) rfl (lane_sem _ _ 1 0 rfl)) $$ L10; iintro L10
  iapply Hk $$ HE L10 L11 HX

theorem part12 {v2 : BitVec 32} {v163 : BitVec 32} {v249 : FVec F S256x1024 .f32} {v263 : FVec F S256x1024 .f32} (hv : k0_pay6 v249 v263 = yv m ρ c 0)
    {α : Type} {Q : α → sProp 𝕄} {k : (PUnit) → Prog (TpuEff nD τ sig (Elt F) Λ₀ .tc) α} :
    LGot m c 1 1 3
      ⊢ iprop(St m ρ K c 1 1 1 1 -∗ RawY (F := F) c 0 -∗ rawSlot (F := F) c c -∗ (LFly m c 1 1 5 -∗ St m ρ K c 1 1 0 8 -∗ gotSlot m ρ c c -∗ WP c (k ⟨⟩) Q)
        -∗ WP c (onWhole (k0_part12 (F := F)) c v2 v163 v249 v263 >>= k) Q) := by
  simp only [k0_part12_eq_skeleton, k0_part12_skel, semSignalWord, semWaitWord, Prog.lift, Prog.bind_op, Prog.bind_ret, Prog.pure_eq_ret, bind_assoc, pure_bind]
  iintro L11 HE Y0 HM Hk
  iapply (mv_restart m c 3 1 1 5 (k0_off4_eq c 1) rfl (lane_sem _ _ 1 1 rfl)) $$ L11; iintro L11
  iapply (step_yload c 0 rfl) $$ Y0; iintro %_ Y0
  iapply (mv_fill_first m ρ K c rfl hv) $$ HE Y0; iintro HE
  iapply (mv_own_load m ρ K c 1 8 (k0_off9_eq c)) $$ HE; iintro HE
  iapply (step_slot_load c (k0_off10_eq c)) $$ HM; iintro %_ HM
  iapply (step_slot_store m ρ c (k0_off10_eq c)) $$ HM; iintro HM
  iapply Hk $$ L11 HE HM

theorem part13 {v2 : BitVec 32} {v163 : BitVec 32}
    {α : Type} {Q : α → sProp 𝕄} {k : (Σ' (v340 : BitVec 32), BitVec 32) → Prog (TpuEff nD τ sig (Elt F) Λ₀ .tc) α} :
    St m ρ K c 1 1 0 8
      ⊢ iprop((∀ r1, ∀ r2, St m ρ K c 4 1 0 8 -∗ WP c (k ⟨r1, r2⟩) Q)
        -∗ WP c (onWhole (k0_part13 (F := F)) c v2 v163 >>= k) Q) := by
  simp only [k0_part13_eq_skeleton, k0_part13_skel, semSignalWord, semWaitWord, Prog.lift, Prog.bind_op, Prog.bind_ret, Prog.pure_eq_ret, bind_assoc, pure_bind]
  iintro HE Hk
  iapply (mv_send m ρ K c 1 1 0 8 (by decide) (d := ⟨k0_dev32 c, k0_dev32_lt c⟩) (dest_eq c 1 fun _ => (k0_dev32_eq c).trans (by omega)) (k0_off13_eq c 1) (k0_off12_eq c) (send_sem _ _ 1 rfl) (recv_sem _ _ c (k0_off11_eq c))) $$ HE; iintro HE
  iapply (mv_send m ρ K c 2 1 0 8 (by decide) (d := ⟨k0_dev33 c, k0_dev33_lt c⟩) (dest_eq c 2 fun _ => (k0_dev33_eq c).trans (by omega)) (k0_off13_eq c 2) (k0_off12_eq c) (send_sem _ _ 2 rfl) (recv_sem _ _ c (k0_off11_eq c))) $$ HE; iintro HE
  iapply (mv_send m ρ K c 3 1 0 8 (by decide) (d := ⟨k0_dev34 c, k0_dev34_lt c⟩) (dest_eq c 3 fun _ => (k0_dev34_eq c).trans (by omega)) (k0_off13_eq c 3) (k0_off12_eq c) (send_sem _ _ 3 rfl) (recv_sem _ _ c (k0_off11_eq c))) $$ HE; iintro HE
  iapply Hk $$ HE

theorem part14 {v2 : BitVec 32} {v163 : BitVec 32} {v340 : BitVec 32} {c8_i32_331 : BitVec 32}
    {α : Type} {Q : α → sProp 𝕄} {k : (BitVec 32) → Prog (TpuEff nD τ sig (Elt F) Λ₀ .tc) α} :
    St m ρ K c 4 1 0 8
      ⊢ iprop((∀ r1, St m ρ K c 6 1 0 8 -∗ WP c (k r1) Q)
        -∗ WP c (onWhole (k0_part14 (F := F)) c v2 v163 v340 c8_i32_331 >>= k) Q) := by
  simp only [k0_part14_eq_skeleton, k0_part14_skel, semSignalWord, semWaitWord, Prog.lift, Prog.bind_op, Prog.bind_ret, Prog.pure_eq_ret, bind_assoc, pure_bind]
  iintro HE Hk
  iapply (mv_send m ρ K c 4 1 0 8 (by decide) (d := ⟨k0_dev35 c, k0_dev35_lt c⟩) (dest_eq c 4 fun _ => (k0_dev35_eq c).trans (by omega)) (k0_off13_eq c 4) (k0_off12_eq c) (send_sem _ _ 4 rfl) (recv_sem _ _ c (k0_off11_eq c))) $$ HE; iintro HE
  iapply (mv_send m ρ K c 5 1 0 8 (by decide) (d := ⟨k0_dev36 c, k0_dev36_lt c⟩) (dest_eq c 5 fun _ => (k0_dev36_eq c).trans (by omega)) (k0_off13_eq c 5) (k0_off12_eq c) (send_sem _ _ 5 rfl) (recv_sem _ _ c (k0_off11_eq c))) $$ HE; iintro HE
  iapply Hk $$ HE

theorem part15 {v2 : BitVec 32} {v3 : BitVec 32} {v163 : BitVec 32} {v372 : BitVec 32}
    {α : Type} {Q : α → sProp 𝕄} {k : (BitVec 32) → Prog (TpuEff nD τ sig (Elt F) Λ₀ .tc) α} :
    St m ρ K c 6 1 0 8
      ⊢ iprop(LFly m c 0 0 4 -∗ (∀ r1, St m ρ K c 8 1 0 8 -∗ LGot m c 0 0 4 -∗ WP c (k r1) Q)
        -∗ WP c (onWhole (k0_part15 (F := F)) c v2 v3 v163 v372 >>= k) Q) := by
  simp only [k0_part15_eq_skeleton, k0_part15_skel, semSignalWord, semWaitWord, Prog.lift, Prog.bind_op, Prog.bind_ret, Prog.pure_eq_ret, bind_assoc, pure_bind]
  iintro HE L00 Hk
  iapply (mv_send m ρ K c 6 1 0 8 (by decide) (d := ⟨k0_dev37 c, k0_dev37_lt c⟩) (dest_eq c 6 fun _ => (k0_dev37_eq c).trans (by omega)) (k0_off13_eq c 6) (k0_off12_eq c) (send_sem _ _ 6 rfl) (recv_sem _ _ c (k0_off11_eq c))) $$ HE; iintro HE
  iapply (mv_send m ρ K c 7 1 0 8 (by decide) (d := ⟨k0_dev38 c, k0_dev38_lt c⟩) (dest_eq c 7 fun _ => (k0_dev38_eq c).trans (by omega)) (k0_off13_eq c 7) (k0_off12_eq c) (send_sem _ _ 7 rfl) (recv_sem _ _ c (k0_off11_eq c))) $$ HE; iintro HE
  iapply (mv_wwait m ρ K c 8 1 0 8 0 0 4 (lane_sem _ _ 0 0 rfl) rfl) $$ HE L00; iintro HE L00
  iapply Hk $$ HE L00

theorem part16 {v3 : BitVec 32}
    {α : Type} {Q : α → sProp 𝕄} {k : (FVec F S256x1024 .f32) → Prog (TpuEff nD τ sig (Elt F) Λ₀ .tc) α} :
    St m ρ K c 8 1 0 8
      ⊢ iprop(LFly m c 0 1 4 -∗ XS m ρ c -∗ LGot m c 0 0 4 -∗ (St m ρ K c 8 1 0 8 -∗ LFly m c 0 1 6 -∗ XS m ρ c -∗ LFly m c 0 0 6 -∗ WP c (k (k0_pay8 (xs m ρ c 0) (wb m c 4))) Q)
        -∗ WP c (onWhole (k0_part16 (F := F)) c v3 >>= k) Q) := by
  simp only [k0_part16_eq_skeleton, k0_part16_skel, semSignalWord, semWaitWord, Prog.lift, Prog.bind_op, Prog.bind_ret, Prog.pure_eq_ret, bind_assoc, pure_bind]
  iintro HE L01 HX L00 Hk
  iapply (mv_wwait m ρ K c 8 1 0 8 0 1 4 (lane_sem _ _ 0 1 rfl) rfl) $$ HE L01; iintro HE L01
  iapply (step_xload m ρ c 0 (by decide) rfl) $$ HX; iintro HX
  iapply (mv_wload m c 0 4 rfl) $$ L00 L01; iintro L00 L01
  iapply (mv_restart m c 4 0 0 6 (k0_off5_eq c 1) rfl (lane_sem _ _ 0 0 rfl)) $$ L00; iintro L00
  iapply (mv_restart m c 4 0 1 6 (k0_off6_eq c 1) rfl (lane_sem _ _ 0 1 rfl)) $$ L01; iintro L01
  iapply Hk $$ HE L01 HX L00

theorem part17 {v3 : BitVec 32} {v414 : FVec F S256x1024 .f32}
    {α : Type} {Q : α → sProp 𝕄} {k : (FVec F S256x1024 .f32) → Prog (TpuEff nD τ sig (Elt F) Λ₀ .tc) α} :
    St m ρ K c 8 1 0 8
      ⊢ iprop(LFly m c 1 0 5 -∗ LFly m c 1 1 5 -∗ XS m ρ c -∗ (St m ρ K c 8 1 0 8 -∗ LFly m c 1 0 7 -∗ LFly m c 1 1 7 -∗ XS m ρ c -∗ WP c (k (k0_pay9 v414 (xs m ρ c 1) (wb m c 5))) Q)
        -∗ WP c (onWhole (k0_part17 (F := F)) c v3 v414 >>= k) Q) := by
  simp only [k0_part17_eq_skeleton, k0_part17_skel, semSignalWord, semWaitWord, Prog.lift, Prog.bind_op, Prog.bind_ret, Prog.pure_eq_ret, bind_assoc, pure_bind]
  iintro HE L10 L11 HX Hk
  iapply (mv_wwait m ρ K c 8 1 0 8 1 0 5 (lane_sem _ _ 1 0 rfl) rfl) $$ HE L10; iintro HE L10
  iapply (mv_wwait m ρ K c 8 1 0 8 1 1 5 (lane_sem _ _ 1 1 rfl) rfl) $$ HE L11; iintro HE L11
  iapply (step_xload m ρ c 1 (by decide) rfl) $$ HX; iintro HX
  iapply (mv_wload m c 1 5 rfl) $$ L10 L11; iintro L10 L11
  iapply (mv_restart m c 5 1 0 7 (k0_off7_eq c 1) rfl (lane_sem _ _ 1 0 rfl)) $$ L10; iintro L10
  iapply (mv_restart m c 5 1 1 7 (k0_off8_eq c 1) rfl (lane_sem _ _ 1 1 rfl)) $$ L11; iintro L11
  iapply Hk $$ HE L10 L11 HX

theorem part18 {v3 : BitVec 32}
    {α : Type} {Q : α → sProp 𝕄} {k : (FVec F S256x1024 .f32) → Prog (TpuEff nD τ sig (Elt F) Λ₀ .tc) α} :
    St m ρ K c 8 1 0 8
      ⊢ iprop(LFly m c 0 0 6 -∗ LFly m c 0 1 6 -∗ XS m ρ c -∗ (St m ρ K c 8 1 0 8 -∗ LFly m c 0 0 8 -∗ LGot m c 0 1 6 -∗ XS m ρ c -∗ WP c (k (k0_pay10 (xs m ρ c 2) (wb m c 6))) Q)
        -∗ WP c (onWhole (k0_part18 (F := F)) c v3 >>= k) Q) := by
  simp only [k0_part18_eq_skeleton, k0_part18_skel, semSignalWord, semWaitWord, Prog.lift, Prog.bind_op, Prog.bind_ret, Prog.pure_eq_ret, bind_assoc, pure_bind]
  iintro HE L00 L01 HX Hk
  iapply (mv_wwait m ρ K c 8 1 0 8 0 0 6 (lane_sem _ _ 0 0 rfl) rfl) $$ HE L00; iintro HE L00
  iapply (mv_wwait m ρ K c 8 1 0 8 0 1 6 (lane_sem _ _ 0 1 rfl) rfl) $$ HE L01; iintro HE L01
  iapply (step_xload m ρ c 2 (by decide) rfl) $$ HX; iintro HX
  iapply (mv_wload m c 0 6 rfl) $$ L00 L01; iintro L00 L01
  iapply (mv_restart m c 6 0 0 8 (k0_off1_eq c 2) rfl (lane_sem _ _ 0 0 rfl)) $$ L00; iintro L00
  iapply Hk $$ HE L00 L01 HX

theorem part19 {v3 : BitVec 32} {v457 : FVec F S256x1024 .f32} {v471 : FVec F S256x1024 .f32}
    {α : Type} {Q : α → sProp 𝕄} {k : (Σ' (v486 : FVec F S256x1024 .f32) (v500 : FVec F S256x1024 .f32) (v502 : BitVec 32), BitVec 32) → Prog (TpuEff nD τ sig (Elt F) Λ₀ .tc) α} :
    LGot m c 0 1 6
      ⊢ iprop(St m ρ K c 8 1 0 8 -∗ LFly m c 1 0 7 -∗ LFly m c 1 1 7 -∗ XS m ρ c -∗ (∀ r1, ∀ r2, LFly m c 0 1 8 -∗ St m ρ K c 8 1 0 8 -∗ LFly m c 1 0 9 -∗ LGot m c 1 1 7 -∗ XS m ρ c -∗ WP c (k ⟨k0_pay11 v457 v471, k0_pay12 (xs m ρ c 3) (wb m c 7), r1, r2⟩) Q)
        -∗ WP c (onWhole (k0_part19 (F := F)) c v3 v457 v471 >>= k) Q) := by
  simp only [k0_part19_eq_skeleton, k0_part19_skel, semSignalWord, semWaitWord, Prog.lift, Prog.bind_op, Prog.bind_ret, Prog.pure_eq_ret, bind_assoc, pure_bind]
  iintro L01 HE L10 L11 HX Hk
  iapply (mv_restart m c 6 0 1 8 (k0_off2_eq c 2) rfl (lane_sem _ _ 0 1 rfl)) $$ L01; iintro L01
  iapply (mv_wwait m ρ K c 8 1 0 8 1 0 7 (lane_sem _ _ 1 0 rfl) rfl) $$ HE L10; iintro HE L10
  iapply (mv_wwait m ρ K c 8 1 0 8 1 1 7 (lane_sem _ _ 1 1 rfl) rfl) $$ HE L11; iintro HE L11
  iapply (step_xload m ρ c 3 (by decide) rfl) $$ HX; iintro HX
  iapply (mv_wload m c 1 7 rfl) $$ L10 L11; iintro L10 L11
  iapply (mv_restart m c 7 1 0 9 (k0_off3_eq c 2) rfl (lane_sem _ _ 1 0 rfl)) $$ L10; iintro L10
  iapply Hk $$ L01 HE L10 L11 HX

theorem part20 {v2 : BitVec 32} {v400 : BitVec 32} {v486 : FVec F S256x1024 .f32} {v500 : FVec F S256x1024 .f32} {v502 : BitVec 32} {c1024_i32_504 : BitVec 32} (hv : k0_pay13 v486 v500 = yv m ρ c 1)
    {α : Type} {Q : α → sProp 𝕄} {k : (Σ' (v538 : BitVec 32) (v540 : BitVec 32), BitVec 32) → Prog (TpuEff nD τ sig (Elt F) Λ₀ .tc) α} :
    LGot m c 1 1 7
      ⊢ iprop(St m ρ K c 8 1 0 8 -∗ RawY (F := F) c 1 -∗ (∀ r1, ∀ r2, ∀ r3, LFly m c 1 1 9 -∗ St m ρ K c 9 1 0 16 -∗ WP c (k ⟨r1, r2, r3⟩) Q)
        -∗ WP c (onWhole (k0_part20 (F := F)) c v2 v400 v486 v500 v502 c1024_i32_504 >>= k) Q) := by
  simp only [k0_part20_eq_skeleton, k0_part20_skel, semSignalWord, semWaitWord, Prog.lift, Prog.bind_op, Prog.bind_ret, Prog.pure_eq_ret, bind_assoc, pure_bind]
  iintro L11 HE Y1 Hk
  iapply (mv_restart m c 7 1 1 9 (k0_off4_eq c 2) rfl (lane_sem _ _ 1 1 rfl)) $$ L11; iintro L11
  iapply (step_yload c 1 rfl) $$ Y1; iintro %_ Y1
  iapply (mv_fill m ρ K c 1 8 1 0 (by decide) rfl hv) $$ HE Y1; iintro HE
  iapply (mv_send m ρ K c 8 1 0 16 (by decide) (d := ⟨k0_dev39 c, k0_dev39_lt c⟩) (dest_eq c 8 fun _ => (k0_dev39_eq c).trans (by omega)) (k0_off14_eq c 0) (k0_off12_eq c) (send_sem _ _ 8 rfl) (recv_sem _ _ c (k0_off11_eq c))) $$ HE; iintro HE
  iapply Hk $$ L11 HE

theorem part21 {v2 : BitVec 32} {v400 : BitVec 32} {v538 : BitVec 32} {v540 : BitVec 32} {c128_i32_529 : BitVec 32}
    {α : Type} {Q : α → sProp 𝕄} {k : (Σ' (v572 : BitVec 32), BitVec 32) → Prog (TpuEff nD τ sig (Elt F) Λ₀ .tc) α} :
    St m ρ K c 9 1 0 16
      ⊢ iprop((∀ r1, ∀ r2, St m ρ K c 11 1 0 16 -∗ WP c (k ⟨r1, r2⟩) Q)
        -∗ WP c (onWhole (k0_part21 (F := F)) c v2 v400 v538 v540 c128_i32_529 >>= k) Q) := by
  simp only [k0_part21_eq_skeleton, k0_part21_skel, semSignalWord, semWaitWord, Prog.lift, Prog.bind_op, Prog.bind_ret, Prog.pure_eq_ret, bind_assoc, pure_bind]
  iintro HE Hk
  iapply (mv_send m ρ K c 9 1 0 16 (by decide) (d := ⟨k0_dev40 c, k0_dev40_lt c⟩) (dest_eq c 9 fun _ => (k0_dev40_eq c).trans (by omega)) (k0_off14_eq c 1) (k0_off12_eq c) (send_sem _ _ 9 rfl) (recv_sem _ _ c (k0_off11_eq c))) $$ HE; iintro HE
  iapply (mv_send m ρ K c 10 1 0 16 (by decide) (d := ⟨k0_dev41 c, k0_dev41_lt c⟩) (dest_eq c 10 fun _ => (k0_dev41_eq c).trans (by omega)) (k0_off14_eq c 2) (k0_off12_eq c) (send_sem _ _ 10 rfl) (recv_sem _ _ c (k0_off11_eq c))) $$ HE; iintro HE
  iapply Hk $$ HE

theorem part22 {v2 : BitVec 32} {v400 : BitVec 32} {v572 : BitVec 32} {c0_i32_555 : BitVec 32}
    {α : Type} {Q : α → sProp 𝕄} {k : (PUnit) → Prog (TpuEff nD τ sig (Elt F) Λ₀ .tc) α} :
    St m ρ K c 11 1 0 16
      ⊢ iprop((St m ρ K c 13 1 0 16 -∗ WP c (k ⟨⟩) Q)
        -∗ WP c (onWhole (k0_part22 (F := F)) c v2 v400 v572 c0_i32_555 >>= k) Q) := by
  simp only [k0_part22_eq_skeleton, k0_part22_skel, semSignalWord, semWaitWord, Prog.lift, Prog.bind_op, Prog.bind_ret, Prog.pure_eq_ret, bind_assoc, pure_bind]
  iintro HE Hk
  iapply (mv_send m ρ K c 11 1 0 16 (by decide) (d := ⟨k0_dev42 c, k0_dev42_lt c⟩) (dest_eq c 11 fun _ => (k0_dev42_eq c).trans (by omega)) (k0_off14_eq c 3) (k0_off12_eq c) (send_sem _ _ 11 rfl) (recv_sem _ _ c (k0_off11_eq c))) $$ HE; iintro HE
  iapply (mv_send m ρ K c 12 1 0 16 (by decide) (d := ⟨k0_dev43 c, k0_dev43_lt c⟩) (dest_eq c 12 fun _ => (k0_dev43_eq c).trans (by omega)) (k0_off14_eq c 4) (k0_off12_eq c) (send_sem _ _ 12 rfl) (recv_sem _ _ c (k0_off11_eq c))) $$ HE; iintro HE
  iapply Hk $$ HE

theorem part23 {v2 : BitVec 32} {v400 : BitVec 32}
    {α : Type} {Q : α → sProp 𝕄} {k : (PUnit) → Prog (TpuEff nD τ sig (Elt F) Λ₀ .tc) α} :
    St m ρ K c 13 1 0 16
      ⊢ iprop((St m ρ K c 15 1 0 16 -∗ WP c (k ⟨⟩) Q)
        -∗ WP c (onWhole (k0_part23 (F := F)) c v2 v400 >>= k) Q) := by
  simp only [k0_part23_eq_skeleton, k0_part23_skel, semSignalWord, semWaitWord, Prog.lift, Prog.bind_op, Prog.bind_ret, Prog.pure_eq_ret, bind_assoc, pure_bind]
  iintro HE Hk
  iapply (mv_send m ρ K c 13 1 0 16 (by decide) (d := ⟨k0_dev44 c, k0_dev44_lt c⟩) (dest_eq c 13 fun _ => (k0_dev44_eq c).trans (by omega)) (k0_off14_eq c 5) (k0_off12_eq c) (send_sem _ _ 13 rfl) (recv_sem _ _ c (k0_off11_eq c))) $$ HE; iintro HE
  iapply (mv_send m ρ K c 14 1 0 16 (by decide) (d := ⟨k0_dev45 c, k0_dev45_lt c⟩) (dest_eq c 14 fun _ => (k0_dev45_eq c).trans (by omega)) (k0_off14_eq c 6) (k0_off12_eq c) (send_sem _ _ 14 rfl) (recv_sem _ _ c (k0_off11_eq c))) $$ HE; iintro HE
  iapply Hk $$ HE

end Cert.A2A

end
-- ==== Proof.Parts2.lean ====
/-
  The body's third and fourth group of columns, part by part.
-/
module

public import proofs.«01_k».proof.Proof.Join

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

theorem part24 {v3 : BitVec 32}
    {α : Type} {Q : α → sProp 𝕄} {k : (Σ' (v643 : BitVec 32), FVec F S256x1024 .f32) → Prog (TpuEff nD τ sig (Elt F) Λ₀ .tc) α} :
    St m ρ K c 15 1 0 16
      ⊢ iprop(LFly m c 0 0 8 -∗ LFly m c 0 1 8 -∗ XS m ρ c -∗ (∀ r1, St m ρ K c 16 1 0 16 -∗ LFly m c 0 0 10 -∗ LGot m c 0 1 8 -∗ XS m ρ c -∗ WP c (k ⟨r1, k0_pay14 (xs m ρ c 0) (wb m c 8)⟩) Q)
        -∗ WP c (onWhole (k0_part24 (F := F)) c v3 >>= k) Q) := by
  simp only [k0_part24_eq_skeleton, k0_part24_skel, semSignalWord, semWaitWord, Prog.lift, Prog.bind_op, Prog.bind_ret, Prog.pure_eq_ret, bind_assoc, pure_bind]
  iintro HE L00 L01 HX Hk
  iapply (mv_send m ρ K c 15 1 0 16 (by decide) (d := ⟨k0_dev46 c, k0_dev46_lt c⟩) (dest_eq c 15 fun _ => (k0_dev46_eq c).trans (by omega)) (k0_off14_eq c 7) (k0_off12_eq c) (send_sem _ _ 15 rfl) (recv_sem _ _ c (k0_off11_eq c))) $$ HE; iintro HE
  iapply (mv_wwait m ρ K c 16 1 0 16 0 0 8 (lane_sem _ _ 0 0 rfl) rfl) $$ HE L00; iintro HE L00
  iapply (mv_wwait m ρ K c 16 1 0 16 0 1 8 (lane_sem _ _ 0 1 rfl) rfl) $$ HE L01; iintro HE L01
  iapply (step_xload m ρ c 0 (by decide) rfl) $$ HX; iintro HX
  iapply (mv_wload m c 0 8 rfl) $$ L00 L01; iintro L00 L01
  iapply (mv_restart m c 8 0 0 10 (k0_off5_eq c 2) rfl (lane_sem _ _ 0 0 rfl)) $$ L00; iintro L00
  iapply Hk $$ HE L00 L01 HX

theorem part25 {v3 : BitVec 32}
    {α : Type} {Q : α → sProp 𝕄} {k : (Σ' (v685 : FVec F S256x1024 .f32), BitVec 32) → Prog (TpuEff nD τ sig (Elt F) Λ₀ .tc) α} :
    LGot m c 0 1 8
      ⊢ iprop(St m ρ K c 16 1 0 16 -∗ LFly m c 1 0 9 -∗ LFly m c 1 1 9 -∗ XS m ρ c -∗ (∀ r1, LFly m c 0 1 10 -∗ St m ρ K c 16 1 0 16 -∗ LGot m c 1 0 9 -∗ LGot m c 1 1 9 -∗ XS m ρ c -∗ WP c (k ⟨k0_pay15 (xs m ρ c 1) (wb m c 9), r1⟩) Q)
        -∗ WP c (onWhole (k0_part25 (F := F)) c v3 >>= k) Q) := by
  simp only [k0_part25_eq_skeleton, k0_part25_skel, semSignalWord, semWaitWord, Prog.lift, Prog.bind_op, Prog.bind_ret, Prog.pure_eq_ret, bind_assoc, pure_bind]
  iintro L01 HE L10 L11 HX Hk
  iapply (mv_restart m c 8 0 1 10 (k0_off6_eq c 2) rfl (lane_sem _ _ 0 1 rfl)) $$ L01; iintro L01
  iapply (mv_wwait m ρ K c 16 1 0 16 1 0 9 (lane_sem _ _ 1 0 rfl) rfl) $$ HE L10; iintro HE L10
  iapply (mv_wwait m ρ K c 16 1 0 16 1 1 9 (lane_sem _ _ 1 1 rfl) rfl) $$ HE L11; iintro HE L11
  iapply (step_xload m ρ c 1 (by decide) rfl) $$ HX; iintro HX
  iapply (mv_wload m c 1 9 rfl) $$ L10 L11; iintro L10 L11
  iapply Hk $$ L01 HE L10 L11 HX

theorem part26 {v3 : BitVec 32} {v657 : FVec F S256x1024 .f32} {v685 : FVec F S256x1024 .f32} {v687 : BitVec 32}
    {α : Type} {Q : α → sProp 𝕄} {k : (Σ' (v700 : FVec F S256x1024 .f32) (v714 : FVec F S256x1024 .f32), BitVec 32) → Prog (TpuEff nD τ sig (Elt F) Λ₀ .tc) α} :
    LGot m c 1 0 9
      ⊢ iprop(LGot m c 1 1 9 -∗ St m ρ K c 16 1 0 16 -∗ LFly m c 0 0 10 -∗ LFly m c 0 1 10 -∗ XS m ρ c -∗ (∀ r1, LFly m c 1 0 11 -∗ LFly m c 1 1 11 -∗ St m ρ K c 16 1 0 16 -∗ LGot m c 0 0 10 -∗ LGot m c 0 1 10 -∗ XS m ρ c -∗ WP c (k ⟨k0_pay16 v657 v685, k0_pay17 (xs m ρ c 2) (wb m c 10), r1⟩) Q)
        -∗ WP c (onWhole (k0_part26 (F := F)) c v3 v657 v685 v687 >>= k) Q) := by
  simp only [k0_part26_eq_skeleton, k0_part26_skel, semSignalWord, semWaitWord, Prog.lift, Prog.bind_op, Prog.bind_ret, Prog.pure_eq_ret, bind_assoc, pure_bind]
  iintro L10 L11 HE L00 L01 HX Hk
  iapply (mv_restart m c 9 1 0 11 (k0_off7_eq c 2) rfl (lane_sem _ _ 1 0 rfl)) $$ L10; iintro L10
  iapply (mv_restart m c 9 1 1 11 (k0_off8_eq c 2) rfl (lane_sem _ _ 1 1 rfl)) $$ L11; iintro L11
  iapply (mv_wwait m ρ K c 16 1 0 16 0 0 10 (lane_sem _ _ 0 0 rfl) rfl) $$ HE L00; iintro HE L00
  iapply (mv_wwait m ρ K c 16 1 0 16 0 1 10 (lane_sem _ _ 0 1 rfl) rfl) $$ HE L01; iintro HE L01
  iapply (step_xload m ρ c 2 (by decide) rfl) $$ HX; iintro HX
  iapply (mv_wload m c 0 10 rfl) $$ L00 L01; iintro L00 L01
  iapply Hk $$ L10 L11 HE L00 L01 HX

theorem part27 {v700 : FVec F S256x1024 .f32} {v714 : FVec F S256x1024 .f32} {v716 : BitVec 32}
    {α : Type} {Q : α → sProp 𝕄} {k : (Σ' (v729 : FVec F S256x1024 .f32) (v743 : FVec F S256x1024 .f32), BitVec 32) → Prog (TpuEff nD τ sig (Elt F) Λ₀ .tc) α} :
    LGot m c 0 0 10
      ⊢ iprop(LGot m c 0 1 10 -∗ St m ρ K c 16 1 0 16 -∗ LFly m c 1 0 11 -∗ LFly m c 1 1 11 -∗ XS m ρ c -∗ (∀ r1, LFly m c 0 0 12 -∗ LFly m c 0 1 12 -∗ St m ρ K c 16 1 0 16 -∗ LGot m c 1 0 11 -∗ LGot m c 1 1 11 -∗ XS m ρ c -∗ WP c (k ⟨k0_pay18 v700 v714, k0_pay19 (xs m ρ c 3) (wb m c 11), r1⟩) Q)
        -∗ WP c (onWhole (k0_part27 (F := F)) c v700 v714 v716 >>= k) Q) := by
  simp only [k0_part27_eq_skeleton, k0_part27_skel, semSignalWord, semWaitWord, Prog.lift, Prog.bind_op, Prog.bind_ret, Prog.pure_eq_ret, bind_assoc, pure_bind]
  iintro L00 L01 HE L10 L11 HX Hk
  iapply (mv_restart m c 10 0 0 12 (k0_off1_eq c 3) rfl (lane_sem _ _ 0 0 rfl)) $$ L00; iintro L00
  iapply (mv_restart m c 10 0 1 12 (k0_off2_eq c 3) rfl (lane_sem _ _ 0 1 rfl)) $$ L01; iintro L01
  iapply (mv_wwait m ρ K c 16 1 0 16 1 0 11 (lane_sem _ _ 1 0 rfl) rfl) $$ HE L10; iintro HE L10
  iapply (mv_wwait m ρ K c 16 1 0 16 1 1 11 (lane_sem _ _ 1 1 rfl) rfl) $$ HE L11; iintro HE L11
  iapply (step_xload m ρ c 3 (by decide) rfl) $$ HX; iintro HX
  iapply (mv_wload m c 1 11 rfl) $$ L10 L11; iintro L10 L11
  iapply Hk $$ L00 L01 HE L10 L11 HX

theorem part28 {v3 : BitVec 32} {v729 : FVec F S256x1024 .f32} {v743 : FVec F S256x1024 .f32} {c3_i32_725 : BitVec 32}
    {α : Type} {Q : α → sProp 𝕄} {k : (FVec F S256x1024 .f32) → Prog (TpuEff nD τ sig (Elt F) Λ₀ .tc) α} :
    LGot m c 1 0 11
      ⊢ iprop(LGot m c 1 1 11 -∗ St m ρ K c 16 1 0 16 -∗ (LFly m c 1 0 13 -∗ LFly m c 1 1 13 -∗ St m ρ K c 16 2 0 16 -∗ WP c (k (k0_pay20 v729 v743)) Q)
        -∗ WP c (onWhole (k0_part28 (F := F)) c v3 v729 v743 c3_i32_725 >>= k) Q) := by
  simp only [k0_part28_eq_skeleton, k0_part28_skel, semSignalWord, semWaitWord, Prog.lift, Prog.bind_op, Prog.bind_ret, Prog.pure_eq_ret, bind_assoc, pure_bind]
  iintro L10 L11 HE Hk
  iapply (mv_restart m c 11 1 0 13 (k0_off3_eq c 3) rfl (lane_sem _ _ 1 0 rfl)) $$ L10; iintro L10
  iapply (mv_restart m c 11 1 1 13 (k0_off4_eq c 3) rfl (lane_sem _ _ 1 1 rfl)) $$ L11; iintro L11
  iapply (mv_swait m ρ K c 16 1 0 16 (by decide) (send_sem _ _ 1 rfl) rfl) $$ HE; iintro HE
  iapply Hk $$ L10 L11 HE

theorem part29
    {α : Type} {Q : α → sProp 𝕄} {k : (PUnit) → Prog (TpuEff nD τ sig (Elt F) Λ₀ .tc) α} :
    St m ρ K c 16 2 0 16
      ⊢ iprop((St m ρ K c 16 7 0 16 -∗ WP c (k ⟨⟩) Q)
        -∗ WP c (onWhole (k0_part29 (F := F)) c >>= k) Q) := by
  simp only [k0_part29_eq_skeleton, k0_part29_skel, semSignalWord, semWaitWord, Prog.lift, Prog.bind_op, Prog.bind_ret, Prog.pure_eq_ret, bind_assoc, pure_bind]
  iintro HE Hk
  iapply (mv_swait m ρ K c 16 2 0 16 (by decide) (send_sem _ _ 2 rfl) rfl) $$ HE; iintro HE
  iapply (mv_swait m ρ K c 16 3 0 16 (by decide) (send_sem _ _ 3 rfl) rfl) $$ HE; iintro HE
  iapply (mv_swait m ρ K c 16 4 0 16 (by decide) (send_sem _ _ 4 rfl) rfl) $$ HE; iintro HE
  iapply (mv_swait m ρ K c 16 5 0 16 (by decide) (send_sem _ _ 5 rfl) rfl) $$ HE; iintro HE
  iapply (mv_swait m ρ K c 16 6 0 16 (by decide) (send_sem _ _ 6 rfl) rfl) $$ HE; iintro HE
  iapply Hk $$ HE

theorem part30 {v2 : BitVec 32} {v643 : BitVec 32} {v760 : FVec F S256x1024 .f32} (hv : k0_pay21 v760 = yv m ρ c 2)
    {α : Type} {Q : α → sProp 𝕄} {k : (PUnit) → Prog (TpuEff nD τ sig (Elt F) Λ₀ .tc) α} :
    St m ρ K c 16 7 0 16
      ⊢ iprop((St m ρ K c 17 8 8 24 -∗ WP c (k ⟨⟩) Q)
        -∗ WP c (onWhole (k0_part30 (F := F)) c v2 v643 v760 >>= k) Q) := by
  simp only [k0_part30_eq_skeleton, k0_part30_skel, semSignalWord, semWaitWord, Prog.lift, Prog.bind_op, Prog.bind_ret, Prog.pure_eq_ret, bind_assoc, pure_bind]
  iintro HE Hk
  iapply (mv_swait m ρ K c 16 7 0 16 (by decide) (send_sem _ _ 7 rfl) rfl) $$ HE; iintro HE
  ihave ⟨HE, Y0⟩ := (mv_take m ρ K c 16 0 16) $$ HE
  iapply (step_yload c 0 rfl) $$ Y0; iintro %_ Y0
  iapply (mv_fill m ρ K c 2 16 8 8 (by decide) rfl hv) $$ HE Y0; iintro HE
  iapply (mv_send m ρ K c 16 8 8 24 (by decide) (d := ⟨k0_dev47 c, k0_dev47_lt c⟩) (dest_eq c 16 fun _ => (k0_dev47_eq c).trans (by omega)) (k0_off13_eq c 0) (k0_off12_eq c) (send_sem _ _ 16 rfl) (recv_sem _ _ c (k0_off11_eq c))) $$ HE; iintro HE
  iapply Hk $$ HE

theorem part31 {v2 : BitVec 32} {v643 : BitVec 32}
    {α : Type} {Q : α → sProp 𝕄} {k : (PUnit) → Prog (TpuEff nD τ sig (Elt F) Λ₀ .tc) α} :
    St m ρ K c 17 8 8 24
      ⊢ iprop((St m ρ K c 19 8 8 24 -∗ WP c (k ⟨⟩) Q)
        -∗ WP c (onWhole (k0_part31 (F := F)) c v2 v643 >>= k) Q) := by
  simp only [k0_part31_eq_skeleton, k0_part31_skel, semSignalWord, semWaitWord, Prog.lift, Prog.bind_op, Prog.bind_ret, Prog.pure_eq_ret, bind_assoc, pure_bind]
  iintro HE Hk
  iapply (mv_send m ρ K c 17 8 8 24 (by decide) (d := ⟨k0_dev48 c, k0_dev48_lt c⟩) (dest_eq c 17 fun _ => (k0_dev48_eq c).trans (by omega)) (k0_off13_eq c 1) (k0_off12_eq c) (send_sem _ _ 17 rfl) (recv_sem _ _ c (k0_off11_eq c))) $$ HE; iintro HE
  iapply (mv_send m ρ K c 18 8 8 24 (by decide) (d := ⟨k0_dev49 c, k0_dev49_lt c⟩) (dest_eq c 18 fun _ => (k0_dev49_eq c).trans (by omega)) (k0_off13_eq c 2) (k0_off12_eq c) (send_sem _ _ 18 rfl) (recv_sem _ _ c (k0_off11_eq c))) $$ HE; iintro HE
  iapply Hk $$ HE

theorem part32 {v2 : BitVec 32} {v643 : BitVec 32}
    {α : Type} {Q : α → sProp 𝕄} {k : (BitVec 32) → Prog (TpuEff nD τ sig (Elt F) Λ₀ .tc) α} :
    St m ρ K c 19 8 8 24
      ⊢ iprop((∀ r1, St m ρ K c 22 8 8 24 -∗ WP c (k r1) Q)
        -∗ WP c (onWhole (k0_part32 (F := F)) c v2 v643 >>= k) Q) := by
  simp only [k0_part32_eq_skeleton, k0_part32_skel, semSignalWord, semWaitWord, Prog.lift, Prog.bind_op, Prog.bind_ret, Prog.pure_eq_ret, bind_assoc, pure_bind]
  iintro HE Hk
  iapply (mv_send m ρ K c 19 8 8 24 (by decide) (d := ⟨k0_dev50 c, k0_dev50_lt c⟩) (dest_eq c 19 fun _ => (k0_dev50_eq c).trans (by omega)) (k0_off13_eq c 3) (k0_off12_eq c) (send_sem _ _ 19 rfl) (recv_sem _ _ c (k0_off11_eq c))) $$ HE; iintro HE
  iapply (mv_send m ρ K c 20 8 8 24 (by decide) (d := ⟨k0_dev51 c, k0_dev51_lt c⟩) (dest_eq c 20 fun _ => (k0_dev51_eq c).trans (by omega)) (k0_off13_eq c 4) (k0_off12_eq c) (send_sem _ _ 20 rfl) (recv_sem _ _ c (k0_off11_eq c))) $$ HE; iintro HE
  iapply (mv_send m ρ K c 21 8 8 24 (by decide) (d := ⟨k0_dev52 c, k0_dev52_lt c⟩) (dest_eq c 21 fun _ => (k0_dev52_eq c).trans (by omega)) (k0_off13_eq c 5) (k0_off12_eq c) (send_sem _ _ 21 rfl) (recv_sem _ _ c (k0_off11_eq c))) $$ HE; iintro HE
  iapply Hk $$ HE

theorem part33 {v2 : BitVec 32} {v3 : BitVec 32} {v643 : BitVec 32} {v898 : BitVec 32}
    {α : Type} {Q : α → sProp 𝕄} {k : (BitVec 32) → Prog (TpuEff nD τ sig (Elt F) Λ₀ .tc) α} :
    St m ρ K c 22 8 8 24
      ⊢ iprop((∀ r1, St m ρ K c 24 8 8 24 -∗ WP c (k r1) Q)
        -∗ WP c (onWhole (k0_part33 (F := F)) c v2 v3 v643 v898 >>= k) Q) := by
  simp only [k0_part33_eq_skeleton, k0_part33_skel, semSignalWord, semWaitWord, Prog.lift, Prog.bind_op, Prog.bind_ret, Prog.pure_eq_ret, bind_assoc, pure_bind]
  iintro HE Hk
  iapply (mv_send m ρ K c 22 8 8 24 (by decide) (d := ⟨k0_dev53 c, k0_dev53_lt c⟩) (dest_eq c 22 fun _ => (k0_dev53_eq c).trans (by omega)) (k0_off13_eq c 6) (k0_off12_eq c) (send_sem _ _ 22 rfl) (recv_sem _ _ c (k0_off11_eq c))) $$ HE; iintro HE
  iapply (mv_send m ρ K c 23 8 8 24 (by decide) (d := ⟨k0_dev54 c, k0_dev54_lt c⟩) (dest_eq c 23 fun _ => (k0_dev54_eq c).trans (by omega)) (k0_off13_eq c 7) (k0_off12_eq c) (send_sem _ _ 23 rfl) (recv_sem _ _ c (k0_off11_eq c))) $$ HE; iintro HE
  iapply Hk $$ HE

theorem part34 {v3 : BitVec 32}
    {α : Type} {Q : α → sProp 𝕄} {k : (FVec F S256x1024 .f32) → Prog (TpuEff nD τ sig (Elt F) Λ₀ .tc) α} :
    St m ρ K c 24 8 8 24
      ⊢ iprop(LFly m c 0 0 12 -∗ LFly m c 0 1 12 -∗ XS m ρ c -∗ (St m ρ K c 24 8 8 24 -∗ LFly m c 0 0 14 -∗ LFly m c 0 1 14 -∗ XS m ρ c -∗ WP c (k (k0_pay22 (xs m ρ c 0) (wb m c 12))) Q)
        -∗ WP c (onWhole (k0_part34 (F := F)) c v3 >>= k) Q) := by
  simp only [k0_part34_eq_skeleton, k0_part34_skel, semSignalWord, semWaitWord, Prog.lift, Prog.bind_op, Prog.bind_ret, Prog.pure_eq_ret, bind_assoc, pure_bind]
  iintro HE L00 L01 HX Hk
  iapply (mv_wwait m ρ K c 24 8 8 24 0 0 12 (lane_sem _ _ 0 0 rfl) rfl) $$ HE L00; iintro HE L00
  iapply (mv_wwait m ρ K c 24 8 8 24 0 1 12 (lane_sem _ _ 0 1 rfl) rfl) $$ HE L01; iintro HE L01
  iapply (step_xload m ρ c 0 (by decide) rfl) $$ HX; iintro HX
  iapply (mv_wload m c 0 12 rfl) $$ L00 L01; iintro L00 L01
  iapply (mv_restart m c 12 0 0 14 (k0_off5_eq c 3) rfl (lane_sem _ _ 0 0 rfl)) $$ L00; iintro L00
  iapply (mv_restart m c 12 0 1 14 (k0_off6_eq c 3) rfl (lane_sem _ _ 0 1 rfl)) $$ L01; iintro L01
  iapply Hk $$ HE L00 L01 HX

theorem part35 {v3 : BitVec 32}
    {α : Type} {Q : α → sProp 𝕄} {k : (FVec F S256x1024 .f32) → Prog (TpuEff nD τ sig (Elt F) Λ₀ .tc) α} :
    St m ρ K c 24 8 8 24
      ⊢ iprop(LFly m c 1 0 13 -∗ LFly m c 1 1 13 -∗ XS m ρ c -∗ (St m ρ K c 24 8 8 24 -∗ LFly m c 1 0 15 -∗ LGot m c 1 1 13 -∗ XS m ρ c -∗ WP c (k (k0_pay23 (xs m ρ c 1) (wb m c 13))) Q)
        -∗ WP c (onWhole (k0_part35 (F := F)) c v3 >>= k) Q) := by
  simp only [k0_part35_eq_skeleton, k0_part35_skel, semSignalWord, semWaitWord, Prog.lift, Prog.bind_op, Prog.bind_ret, Prog.pure_eq_ret, bind_assoc, pure_bind]
  iintro HE L10 L11 HX Hk
  iapply (mv_wwait m ρ K c 24 8 8 24 1 0 13 (lane_sem _ _ 1 0 rfl) rfl) $$ HE L10; iintro HE L10
  iapply (mv_wwait m ρ K c 24 8 8 24 1 1 13 (lane_sem _ _ 1 1 rfl) rfl) $$ HE L11; iintro HE L11
  iapply (step_xload m ρ c 1 (by decide) rfl) $$ HX; iintro HX
  iapply (mv_wload m c 1 13 rfl) $$ L10 L11; iintro L10 L11
  iapply (mv_restart m c 13 1 0 15 (k0_off7_eq c 3) rfl (lane_sem _ _ 1 0 rfl)) $$ L10; iintro L10
  iapply Hk $$ HE L10 L11 HX

theorem part36 {v942 : FVec F S256x1024 .f32} {v970 : FVec F S256x1024 .f32}
    {α : Type} {Q : α → sProp 𝕄} {k : (FVec F S256x1024 .f32) → Prog (TpuEff nD τ sig (Elt F) Λ₀ .tc) α} :
    LGot m c 1 1 13
      ⊢ iprop(St m ρ K c 24 8 8 24 -∗ LFly m c 0 0 14 -∗ LFly m c 0 1 14 -∗ XS m ρ c -∗ LFly m c 1 0 15 -∗ (LFly m c 1 1 15 -∗ St m ρ K c 24 8 8 24 -∗ LGot m c 0 0 14 -∗ LGot m c 0 1 14 -∗ XS m ρ c -∗ LGot m c 1 0 15 -∗ WP c (k (k0_pay24 v942 v970 (xs m ρ c 2) (wb m c 14))) Q)
        -∗ WP c (onWhole (k0_part36 (F := F)) c v942 v970 >>= k) Q) := by
  simp only [k0_part36_eq_skeleton, k0_part36_skel, semSignalWord, semWaitWord, Prog.lift, Prog.bind_op, Prog.bind_ret, Prog.pure_eq_ret, bind_assoc, pure_bind]
  iintro L11 HE L00 L01 HX L10 Hk
  iapply (mv_restart m c 13 1 1 15 (k0_off8_eq c 3) rfl (lane_sem _ _ 1 1 rfl)) $$ L11; iintro L11
  iapply (mv_wwait m ρ K c 24 8 8 24 0 0 14 (lane_sem _ _ 0 0 rfl) rfl) $$ HE L00; iintro HE L00
  iapply (mv_wwait m ρ K c 24 8 8 24 0 1 14 (lane_sem _ _ 0 1 rfl) rfl) $$ HE L01; iintro HE L01
  iapply (step_xload m ρ c 2 (by decide) rfl) $$ HX; iintro HX
  iapply (mv_wload m c 0 14 rfl) $$ L00 L01; iintro L00 L01
  iapply (mv_wwait m ρ K c 24 8 8 24 1 0 15 (lane_sem _ _ 1 0 rfl) rfl) $$ HE L10; iintro HE L10
  iapply Hk $$ L11 HE L00 L01 HX L10

theorem part37 {v1000 : FVec F S256x1024 .f32}
    {α : Type} {Q : α → sProp 𝕄} {k : (FVec F S256x1024 .f32) → Prog (TpuEff nD τ sig (Elt F) Λ₀ .tc) α} :
    St m ρ K c 24 8 8 24
      ⊢ iprop(LFly m c 1 1 15 -∗ XS m ρ c -∗ LGot m c 1 0 15 -∗ (St m ρ K c 24 11 8 24 -∗ LGot m c 1 1 15 -∗ XS m ρ c -∗ LGot m c 1 0 15 -∗ WP c (k (k0_pay25 v1000 (xs m ρ c 3) (wb m c 15))) Q)
        -∗ WP c (onWhole (k0_part37 (F := F)) c v1000 >>= k) Q) := by
  simp only [k0_part37_eq_skeleton, k0_part37_skel, semSignalWord, semWaitWord, Prog.lift, Prog.bind_op, Prog.bind_ret, Prog.pure_eq_ret, bind_assoc, pure_bind]
  iintro HE L11 HX L10 Hk
  iapply (mv_wwait m ρ K c 24 8 8 24 1 1 15 (lane_sem _ _ 1 1 rfl) rfl) $$ HE L11; iintro HE L11
  iapply (step_xload m ρ c 3 (by decide) rfl) $$ HX; iintro HX
  iapply (mv_wload m c 1 15 rfl) $$ L10 L11; iintro L10 L11
  iapply (mv_swait m ρ K c 24 8 8 24 (by decide) (send_sem _ _ 8 rfl) rfl) $$ HE; iintro HE
  iapply (mv_swait m ρ K c 24 9 8 24 (by decide) (send_sem _ _ 9 rfl) rfl) $$ HE; iintro HE
  iapply (mv_swait m ρ K c 24 10 8 24 (by decide) (send_sem _ _ 10 rfl) rfl) $$ HE; iintro HE
  iapply Hk $$ HE L11 HX L10

theorem part38
    {α : Type} {Q : α → sProp 𝕄} {k : (PUnit) → Prog (TpuEff nD τ sig (Elt F) Λ₀ .tc) α} :
    St m ρ K c 24 11 8 24
      ⊢ iprop((St m ρ K c 24 15 8 24 -∗ WP c (k ⟨⟩) Q)
        -∗ WP c (onWhole (k0_part38 (F := F)) c >>= k) Q) := by
  simp only [k0_part38_eq_skeleton, k0_part38_skel, semSignalWord, semWaitWord, Prog.lift, Prog.bind_op, Prog.bind_ret, Prog.pure_eq_ret, bind_assoc, pure_bind]
  iintro HE Hk
  iapply (mv_swait m ρ K c 24 11 8 24 (by decide) (send_sem _ _ 11 rfl) rfl) $$ HE; iintro HE
  iapply (mv_swait m ρ K c 24 12 8 24 (by decide) (send_sem _ _ 12 rfl) rfl) $$ HE; iintro HE
  iapply (mv_swait m ρ K c 24 13 8 24 (by decide) (send_sem _ _ 13 rfl) rfl) $$ HE; iintro HE
  iapply (mv_swait m ρ K c 24 14 8 24 (by decide) (send_sem _ _ 14 rfl) rfl) $$ HE; iintro HE
  iapply Hk $$ HE

theorem part39 {v2 : BitVec 32} {v928 : BitVec 32} {v1017 : FVec F S256x1024 .f32} (hv : k0_pay26 v1017 = yv m ρ c 3)
    {α : Type} {Q : α → sProp 𝕄} {k : (PUnit) → Prog (TpuEff nD τ sig (Elt F) Λ₀ .tc) α} :
    St m ρ K c 24 15 8 24
      ⊢ iprop((St m ρ K c 25 16 16 32 -∗ WP c (k ⟨⟩) Q)
        -∗ WP c (onWhole (k0_part39 (F := F)) c v2 v928 v1017 >>= k) Q) := by
  simp only [k0_part39_eq_skeleton, k0_part39_skel, semSignalWord, semWaitWord, Prog.lift, Prog.bind_op, Prog.bind_ret, Prog.pure_eq_ret, bind_assoc, pure_bind]
  iintro HE Hk
  iapply (mv_swait m ρ K c 24 15 8 24 (by decide) (send_sem _ _ 15 rfl) rfl) $$ HE; iintro HE
  ihave ⟨HE, Y1⟩ := (mv_take m ρ K c 24 1 24) $$ HE
  iapply (step_yload c 1 rfl) $$ Y1; iintro %_ Y1
  iapply (mv_fill m ρ K c 3 24 16 16 (by decide) rfl hv) $$ HE Y1; iintro HE
  iapply (mv_send m ρ K c 24 16 16 32 (by decide) (d := ⟨k0_dev55 c, k0_dev55_lt c⟩) (dest_eq c 24 fun _ => (k0_dev55_eq c).trans (by omega)) (k0_off14_eq c 0) (k0_off12_eq c) (send_sem _ _ 24 rfl) (recv_sem _ _ c (k0_off11_eq c))) $$ HE; iintro HE
  iapply Hk $$ HE

theorem part40 {v2 : BitVec 32} {v928 : BitVec 32}
    {α : Type} {Q : α → sProp 𝕄} {k : (PUnit) → Prog (TpuEff nD τ sig (Elt F) Λ₀ .tc) α} :
    St m ρ K c 25 16 16 32
      ⊢ iprop((St m ρ K c 28 16 16 32 -∗ WP c (k ⟨⟩) Q)
        -∗ WP c (onWhole (k0_part40 (F := F)) c v2 v928 >>= k) Q) := by
  simp only [k0_part40_eq_skeleton, k0_part40_skel, semSignalWord, semWaitWord, Prog.lift, Prog.bind_op, Prog.bind_ret, Prog.pure_eq_ret, bind_assoc, pure_bind]
  iintro HE Hk
  iapply (mv_send m ρ K c 25 16 16 32 (by decide) (d := ⟨k0_dev56 c, k0_dev56_lt c⟩) (dest_eq c 25 fun _ => (k0_dev56_eq c).trans (by omega)) (k0_off14_eq c 1) (k0_off12_eq c) (send_sem _ _ 25 rfl) (recv_sem _ _ c (k0_off11_eq c))) $$ HE; iintro HE
  iapply (mv_send m ρ K c 26 16 16 32 (by decide) (d := ⟨k0_dev57 c, k0_dev57_lt c⟩) (dest_eq c 26 fun _ => (k0_dev57_eq c).trans (by omega)) (k0_off14_eq c 2) (k0_off12_eq c) (send_sem _ _ 26 rfl) (recv_sem _ _ c (k0_off11_eq c))) $$ HE; iintro HE
  iapply (mv_send m ρ K c 27 16 16 32 (by decide) (d := ⟨k0_dev58 c, k0_dev58_lt c⟩) (dest_eq c 27 fun _ => (k0_dev58_eq c).trans (by omega)) (k0_off14_eq c 3) (k0_off12_eq c) (send_sem _ _ 27 rfl) (recv_sem _ _ c (k0_off11_eq c))) $$ HE; iintro HE
  iapply Hk $$ HE

theorem part41 {v2 : BitVec 32} {v928 : BitVec 32}
    {α : Type} {Q : α → sProp 𝕄} {k : (Σ' (v1161 : BitVec 32), BitVec 32) → Prog (TpuEff nD τ sig (Elt F) Λ₀ .tc) α} :
    St m ρ K c 28 16 16 32
      ⊢ iprop((∀ r1, ∀ r2, St m ρ K c 30 16 16 32 -∗ WP c (k ⟨r1, r2⟩) Q)
        -∗ WP c (onWhole (k0_part41 (F := F)) c v2 v928 >>= k) Q) := by
  simp only [k0_part41_eq_skeleton, k0_part41_skel, semSignalWord, semWaitWord, Prog.lift, Prog.bind_op, Prog.bind_ret, Prog.pure_eq_ret, bind_assoc, pure_bind]
  iintro HE Hk
  iapply (mv_send m ρ K c 28 16 16 32 (by decide) (d := ⟨k0_dev59 c, k0_dev59_lt c⟩) (dest_eq c 28 fun _ => (k0_dev59_eq c).trans (by omega)) (k0_off14_eq c 4) (k0_off12_eq c) (send_sem _ _ 28 rfl) (recv_sem _ _ c (k0_off11_eq c))) $$ HE; iintro HE
  iapply (mv_send m ρ K c 29 16 16 32 (by decide) (d := ⟨k0_dev60 c, k0_dev60_lt c⟩) (dest_eq c 29 fun _ => (k0_dev60_eq c).trans (by omega)) (k0_off14_eq c 5) (k0_off12_eq c) (send_sem _ _ 29 rfl) (recv_sem _ _ c (k0_off11_eq c))) $$ HE; iintro HE
  iapply Hk $$ HE

theorem part42 {v2 : BitVec 32} {v928 : BitVec 32} {v1161 : BitVec 32} {v1162 : BitVec 32}
    {α : Type} {Q : α → sProp 𝕄} {k : (PUnit) → Prog (TpuEff nD τ sig (Elt F) Λ₀ .tc) α} :
    St m ρ K c 30 16 16 32
      ⊢ iprop((St m ρ K c 32 16 16 32 -∗ WP c (k ⟨⟩) Q)
        -∗ WP c (onWhole (k0_part42 (F := F)) c v2 v928 v1161 v1162 >>= k) Q) := by
  simp only [k0_part42_eq_skeleton, k0_part42_skel, semSignalWord, semWaitWord, Prog.lift, Prog.bind_op, Prog.bind_ret, Prog.pure_eq_ret, bind_assoc, pure_bind]
  iintro HE Hk
  iapply (mv_send m ρ K c 30 16 16 32 (by decide) (d := ⟨k0_dev61 c, k0_dev61_lt c⟩) (dest_eq c 30 fun _ => (k0_dev61_eq c).trans (by omega)) (k0_off14_eq c 6) (k0_off12_eq c) (send_sem _ _ 30 rfl) (recv_sem _ _ c (k0_off11_eq c))) $$ HE; iintro HE
  iapply (mv_send m ρ K c 31 16 16 32 (by decide) (d := ⟨k0_dev62 c, k0_dev62_lt c⟩) (dest_eq c 31 fun _ => (k0_dev62_eq c).trans (by omega)) (k0_off14_eq c 7) (k0_off12_eq c) (send_sem _ _ 31 rfl) (recv_sem _ _ c (k0_off11_eq c))) $$ HE; iintro HE
  iapply Hk $$ HE

end Cert.A2A

end
-- ==== Proof.Parts3.lean ====
/-
  The arrivals, the result and the last waits, part by part.
-/
module

public import proofs.«01_k».proof.Proof.Join

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

theorem part43 {v2 : BitVec 32}
    {α : Type} {Q : α → sProp 𝕄} {k : (Σ' (v1222 : BitVec 32), BitVec 32) → Prog (TpuEff nD τ sig (Elt F) Λ₀ .tc) α} :
    St m ρ K c 32 16 16 32
      ⊢ iprop(Rcv m ρ c 1 -∗ (∀ r1, ∀ r2, St m ρ K c 32 16 16 32 -∗ Rcv m ρ c 4 -∗ WP c (k ⟨r1, r2⟩) Q)
        -∗ WP c (onWhole (k0_part43 (F := F)) c v2 >>= k) Q) := by
  simp only [k0_part43_eq_skeleton, k0_part43_skel, semSignalWord, semWaitWord, Prog.lift, Prog.bind_op, Prog.bind_ret, Prog.pure_eq_ret, bind_assoc, pure_bind]
  iintro HE HV Hk
  iapply (mv_rwait m ρ K c 16 16 32 1 (by decide) (recv_sem _ _ (rot c 1) (k0_off15_eq c 0)) rfl) $$ HE HV; iintro HE HV
  iapply (mv_rwait m ρ K c 16 16 32 2 (by decide) (recv_sem _ _ (rot c 2) (k0_off15_eq c 1)) rfl) $$ HE HV; iintro HE HV
  iapply (mv_rwait m ρ K c 16 16 32 3 (by decide) (recv_sem _ _ (rot c 3) (k0_off15_eq c 2)) rfl) $$ HE HV; iintro HE HV
  iapply Hk $$ HE HV

theorem part44 {v2 : BitVec 32} {v1222 : BitVec 32} {c0_i32_1156 : BitVec 32}
    {α : Type} {Q : α → sProp 𝕄} {k : (PUnit) → Prog (TpuEff nD τ sig (Elt F) Λ₀ .tc) α} :
    St m ρ K c 32 16 16 32
      ⊢ iprop(Rcv m ρ c 4 -∗ (St m ρ K c 32 16 16 32 -∗ Rcv m ρ c 7 -∗ WP c (k ⟨⟩) Q)
        -∗ WP c (onWhole (k0_part44 (F := F)) c v2 v1222 c0_i32_1156 >>= k) Q) := by
  simp only [k0_part44_eq_skeleton, k0_part44_skel, semSignalWord, semWaitWord, Prog.lift, Prog.bind_op, Prog.bind_ret, Prog.pure_eq_ret, bind_assoc, pure_bind]
  iintro HE HV Hk
  iapply (mv_rwait m ρ K c 16 16 32 4 (by decide) (recv_sem _ _ (rot c 4) (k0_off15_eq c 3)) rfl) $$ HE HV; iintro HE HV
  iapply (mv_rwait m ρ K c 16 16 32 5 (by decide) (recv_sem _ _ (rot c 5) (k0_off15_eq c 4)) rfl) $$ HE HV; iintro HE HV
  iapply (mv_rwait m ρ K c 16 16 32 6 (by decide) (recv_sem _ _ (rot c 6) (k0_off15_eq c 5)) rfl) $$ HE HV; iintro HE HV
  iapply Hk $$ HE HV

theorem part45 {v2 : BitVec 32}
    {α : Type} {Q : α → sProp 𝕄} {k : (Σ' (v1280 : BitVec 32), BitVec 32) → Prog (TpuEff nD τ sig (Elt F) Λ₀ .tc) α} :
    St m ρ K c 32 16 16 32
      ⊢ iprop(Rcv m ρ c 7 -∗ (∀ r1, ∀ r2, St m ρ K c 32 16 16 32 -∗ Rcv m ρ c 10 -∗ WP c (k ⟨r1, r2⟩) Q)
        -∗ WP c (onWhole (k0_part45 (F := F)) c v2 >>= k) Q) := by
  simp only [k0_part45_eq_skeleton, k0_part45_skel, semSignalWord, semWaitWord, Prog.lift, Prog.bind_op, Prog.bind_ret, Prog.pure_eq_ret, bind_assoc, pure_bind]
  iintro HE HV Hk
  iapply (mv_rwait m ρ K c 16 16 32 7 (by decide) (recv_sem _ _ (rot c 7) (k0_off15_eq c 6)) rfl) $$ HE HV; iintro HE HV
  iapply (mv_rwait m ρ K c 16 16 32 8 (by decide) (recv_sem _ _ (rot c 8) (k0_off15_eq c 7)) rfl) $$ HE HV; iintro HE HV
  iapply (mv_rwait m ρ K c 16 16 32 9 (by decide) (recv_sem _ _ (rot c 9) (k0_off15_eq c 8)) rfl) $$ HE HV; iintro HE HV
  iapply Hk $$ HE HV

theorem part46 {v2 : BitVec 32} {v1280 : BitVec 32} {c32_i32_1212 : BitVec 32}
    {α : Type} {Q : α → sProp 𝕄} {k : (PUnit) → Prog (TpuEff nD τ sig (Elt F) Λ₀ .tc) α} :
    St m ρ K c 32 16 16 32
      ⊢ iprop(Rcv m ρ c 10 -∗ (St m ρ K c 32 16 16 32 -∗ Rcv m ρ c 13 -∗ WP c (k ⟨⟩) Q)
        -∗ WP c (onWhole (k0_part46 (F := F)) c v2 v1280 c32_i32_1212 >>= k) Q) := by
  simp only [k0_part46_eq_skeleton, k0_part46_skel, semSignalWord, semWaitWord, Prog.lift, Prog.bind_op, Prog.bind_ret, Prog.pure_eq_ret, bind_assoc, pure_bind]
  iintro HE HV Hk
  iapply (mv_rwait m ρ K c 16 16 32 10 (by decide) (recv_sem _ _ (rot c 10) (k0_off15_eq c 9)) rfl) $$ HE HV; iintro HE HV
  iapply (mv_rwait m ρ K c 16 16 32 11 (by decide) (recv_sem _ _ (rot c 11) (k0_off15_eq c 10)) rfl) $$ HE HV; iintro HE HV
  iapply (mv_rwait m ρ K c 16 16 32 12 (by decide) (recv_sem _ _ (rot c 12) (k0_off15_eq c 11)) rfl) $$ HE HV; iintro HE HV
  iapply Hk $$ HE HV

theorem part47 {v2 : BitVec 32}
    {α : Type} {Q : α → sProp 𝕄} {k : (PUnit) → Prog (TpuEff nD τ sig (Elt F) Λ₀ .tc) α} :
    St m ρ K c 32 16 16 32
      ⊢ iprop(Rcv m ρ c 13 -∗ (St m ρ K c 32 16 16 32 -∗ Rcv m ρ c 15 -∗ WP c (k ⟨⟩) Q)
        -∗ WP c (onWhole (k0_part47 (F := F)) c v2 >>= k) Q) := by
  simp only [k0_part47_eq_skeleton, k0_part47_skel, semSignalWord, semWaitWord, Prog.lift, Prog.bind_op, Prog.bind_ret, Prog.pure_eq_ret, bind_assoc, pure_bind]
  iintro HE HV Hk
  iapply (mv_rwait m ρ K c 16 16 32 13 (by decide) (recv_sem _ _ (rot c 13) (k0_off15_eq c 12)) rfl) $$ HE HV; iintro HE HV
  iapply (mv_rwait m ρ K c 16 16 32 14 (by decide) (recv_sem _ _ (rot c 14) (k0_off15_eq c 13)) rfl) $$ HE HV; iintro HE HV
  iapply Hk $$ HE HV

theorem part48 {v2 : BitVec 32}
    {α : Type} {Q : α → sProp 𝕄} {k : (PUnit) → Prog (TpuEff nD τ sig (Elt F) Λ₀ .tc) α} :
    St m ρ K c 32 16 16 32
      ⊢ iprop(Rcv m ρ c 15 -∗ (St m ρ K c 32 16 16 32 -∗ Rcv m ρ c 18 -∗ WP c (k ⟨⟩) Q)
        -∗ WP c (onWhole (k0_part48 (F := F)) c v2 >>= k) Q) := by
  simp only [k0_part48_eq_skeleton, k0_part48_skel, semSignalWord, semWaitWord, Prog.lift, Prog.bind_op, Prog.bind_ret, Prog.pure_eq_ret, bind_assoc, pure_bind]
  iintro HE HV Hk
  iapply (mv_rwait m ρ K c 16 16 32 15 (by decide) (recv_sem _ _ (rot c 15) (k0_off15_eq c 14)) rfl) $$ HE HV; iintro HE HV
  iapply (mv_rwait m ρ K c 16 16 32 16 (by decide) (recv_sem _ _ (rot c 16) (k0_off15_eq c 15)) rfl) $$ HE HV; iintro HE HV
  iapply (mv_rwait m ρ K c 16 16 32 17 (by decide) (recv_sem _ _ (rot c 17) (k0_off15_eq c 16)) rfl) $$ HE HV; iintro HE HV
  iapply Hk $$ HE HV

theorem part49 {v2 : BitVec 32}
    {α : Type} {Q : α → sProp 𝕄} {k : (PUnit) → Prog (TpuEff nD τ sig (Elt F) Λ₀ .tc) α} :
    St m ρ K c 32 16 16 32
      ⊢ iprop(Rcv m ρ c 18 -∗ (St m ρ K c 32 16 16 32 -∗ Rcv m ρ c 21 -∗ WP c (k ⟨⟩) Q)
        -∗ WP c (onWhole (k0_part49 (F := F)) c v2 >>= k) Q) := by
  simp only [k0_part49_eq_skeleton, k0_part49_skel, semSignalWord, semWaitWord, Prog.lift, Prog.bind_op, Prog.bind_ret, Prog.pure_eq_ret, bind_assoc, pure_bind]
  iintro HE HV Hk
  iapply (mv_rwait m ρ K c 16 16 32 18 (by decide) (recv_sem _ _ (rot c 18) (k0_off15_eq c 17)) rfl) $$ HE HV; iintro HE HV
  iapply (mv_rwait m ρ K c 16 16 32 19 (by decide) (recv_sem _ _ (rot c 19) (k0_off15_eq c 18)) rfl) $$ HE HV; iintro HE HV
  iapply (mv_rwait m ρ K c 16 16 32 20 (by decide) (recv_sem _ _ (rot c 20) (k0_off15_eq c 19)) rfl) $$ HE HV; iintro HE HV
  iapply Hk $$ HE HV

theorem part50 {v2 : BitVec 32}
    {α : Type} {Q : α → sProp 𝕄} {k : (Σ' (v1422 : BitVec 32), BitVec 32) → Prog (TpuEff nD τ sig (Elt F) Λ₀ .tc) α} :
    St m ρ K c 32 16 16 32
      ⊢ iprop(Rcv m ρ c 21 -∗ (∀ r1, ∀ r2, St m ρ K c 32 16 16 32 -∗ Rcv m ρ c 24 -∗ WP c (k ⟨r1, r2⟩) Q)
        -∗ WP c (onWhole (k0_part50 (F := F)) c v2 >>= k) Q) := by
  simp only [k0_part50_eq_skeleton, k0_part50_skel, semSignalWord, semWaitWord, Prog.lift, Prog.bind_op, Prog.bind_ret, Prog.pure_eq_ret, bind_assoc, pure_bind]
  iintro HE HV Hk
  iapply (mv_rwait m ρ K c 16 16 32 21 (by decide) (recv_sem _ _ (rot c 21) (k0_off15_eq c 20)) rfl) $$ HE HV; iintro HE HV
  iapply (mv_rwait m ρ K c 16 16 32 22 (by decide) (recv_sem _ _ (rot c 22) (k0_off15_eq c 21)) rfl) $$ HE HV; iintro HE HV
  iapply (mv_rwait m ρ K c 16 16 32 23 (by decide) (recv_sem _ _ (rot c 23) (k0_off15_eq c 22)) rfl) $$ HE HV; iintro HE HV
  iapply Hk $$ HE HV

theorem part51 {v2 : BitVec 32} {v1422 : BitVec 32} {c0_i32_1356 : BitVec 32}
    {α : Type} {Q : α → sProp 𝕄} {k : (PUnit) → Prog (TpuEff nD τ sig (Elt F) Λ₀ .tc) α} :
    St m ρ K c 32 16 16 32
      ⊢ iprop(Rcv m ρ c 24 -∗ (St m ρ K c 32 16 16 32 -∗ Rcv m ρ c 27 -∗ WP c (k ⟨⟩) Q)
        -∗ WP c (onWhole (k0_part51 (F := F)) c v2 v1422 c0_i32_1356 >>= k) Q) := by
  simp only [k0_part51_eq_skeleton, k0_part51_skel, semSignalWord, semWaitWord, Prog.lift, Prog.bind_op, Prog.bind_ret, Prog.pure_eq_ret, bind_assoc, pure_bind]
  iintro HE HV Hk
  iapply (mv_rwait m ρ K c 16 16 32 24 (by decide) (recv_sem _ _ (rot c 24) (k0_off15_eq c 23)) rfl) $$ HE HV; iintro HE HV
  iapply (mv_rwait m ρ K c 16 16 32 25 (by decide) (recv_sem _ _ (rot c 25) (k0_off15_eq c 24)) rfl) $$ HE HV; iintro HE HV
  iapply (mv_rwait m ρ K c 16 16 32 26 (by decide) (recv_sem _ _ (rot c 26) (k0_off15_eq c 25)) rfl) $$ HE HV; iintro HE HV
  iapply Hk $$ HE HV

theorem part52 {v2 : BitVec 32}
    {α : Type} {Q : α → sProp 𝕄} {k : (Σ' (v1480 : BitVec 32), BitVec 32) → Prog (TpuEff nD τ sig (Elt F) Λ₀ .tc) α} :
    St m ρ K c 32 16 16 32
      ⊢ iprop(Rcv m ρ c 27 -∗ (∀ r1, ∀ r2, St m ρ K c 32 16 16 32 -∗ Rcv m ρ c 30 -∗ WP c (k ⟨r1, r2⟩) Q)
        -∗ WP c (onWhole (k0_part52 (F := F)) c v2 >>= k) Q) := by
  simp only [k0_part52_eq_skeleton, k0_part52_skel, semSignalWord, semWaitWord, Prog.lift, Prog.bind_op, Prog.bind_ret, Prog.pure_eq_ret, bind_assoc, pure_bind]
  iintro HE HV Hk
  iapply (mv_rwait m ρ K c 16 16 32 27 (by decide) (recv_sem _ _ (rot c 27) (k0_off15_eq c 26)) rfl) $$ HE HV; iintro HE HV
  iapply (mv_rwait m ρ K c 16 16 32 28 (by decide) (recv_sem _ _ (rot c 28) (k0_off15_eq c 27)) rfl) $$ HE HV; iintro HE HV
  iapply (mv_rwait m ρ K c 16 16 32 29 (by decide) (recv_sem _ _ (rot c 29) (k0_off15_eq c 28)) rfl) $$ HE HV; iintro HE HV
  iapply Hk $$ HE HV

theorem part53 (f1 : Buf (Elt F) ((c : Thread nD τ).loc cc0_stg1_0)) {v2 : BitVec 32} {v1480 : BitVec 32} {c32_i32_1412 : BitVec 32}
    {α : Type} {Q : α → sProp 𝕄} {k : (PUnit) → Prog (TpuEff nD τ sig (Elt F) Λ₀ .tc) α} :
    St m ρ K c 32 16 16 32
      ⊢ iprop(Rcv m ρ c 30 -∗ gotSlot m ρ c c -∗ (((c : Thread nD τ).loc cc0_stg1_0) ↦{fullShare} f1) -∗ (St m ρ K c 32 16 16 32 -∗ rcvdPos (F := F) c -∗ Full m ρ c -∗ (((c : Thread nD τ).loc cc0_stg1_0) ↦{fullShare} (outAt m ρ c)) -∗ WP c (k ⟨⟩) Q)
        -∗ WP c (onWhole (k0_part53 (F := F)) c v2 v1480 c32_i32_1412 >>= k) Q) := by
  simp only [k0_part53_eq_skeleton, k0_part53_skel, semSignalWord, semWaitWord, Prog.lift, Prog.bind_op, Prog.bind_ret, Prog.pure_eq_ret, bind_assoc, pure_bind]
  iintro HE HV HM HO Hk
  iapply (mv_rwait m ρ K c 16 16 32 30 (by decide) (recv_sem _ _ (rot c 30) (k0_off15_eq c 29)) rfl) $$ HE HV; iintro HE HV
  iapply (mv_rwait m ρ K c 16 16 32 31 (by decide) (recv_sem _ _ (rot c 31) (k0_off15_eq c 30)) rfl) $$ HE HV; iintro HE HV
  ihave HF := (recv_full m ρ c) $$ [HV HM]
  · iframe
  icases HF with ⟨HV, HF⟩
  iapply (step_recv_load m ρ c off3_zero) $$ HF; iintro HF
  iapply (step_out_load c f1) $$ HO; iintro %_ HO
  iapply (step_out_store m ρ c f1 off2_zero) $$ HO; iintro HO
  iapply Hk $$ HE HV HF HO

theorem part54
    {α : Type} {Q : α → sProp 𝕄} {k : (PUnit) → Prog (TpuEff nD τ sig (Elt F) Λ₀ .tc) α} :
    St m ρ K c 32 16 16 32
      ⊢ iprop((St m ρ K c 32 21 16 32 -∗ WP c (k ⟨⟩) Q)
        -∗ WP c (onWhole (k0_part54 (F := F)) c >>= k) Q) := by
  simp only [k0_part54_eq_skeleton, k0_part54_skel, semSignalWord, semWaitWord, Prog.lift, Prog.bind_op, Prog.bind_ret, Prog.pure_eq_ret, bind_assoc, pure_bind]
  iintro HE Hk
  iapply (mv_swait m ρ K c 32 16 16 32 (by decide) (send_sem _ _ 16 rfl) rfl) $$ HE; iintro HE
  iapply (mv_swait m ρ K c 32 17 16 32 (by decide) (send_sem _ _ 17 rfl) rfl) $$ HE; iintro HE
  iapply (mv_swait m ρ K c 32 18 16 32 (by decide) (send_sem _ _ 18 rfl) rfl) $$ HE; iintro HE
  iapply (mv_swait m ρ K c 32 19 16 32 (by decide) (send_sem _ _ 19 rfl) rfl) $$ HE; iintro HE
  iapply (mv_swait m ρ K c 32 20 16 32 (by decide) (send_sem _ _ 20 rfl) rfl) $$ HE; iintro HE
  iapply Hk $$ HE

theorem part55
    {α : Type} {Q : α → sProp 𝕄} {k : (PUnit) → Prog (TpuEff nD τ sig (Elt F) Λ₀ .tc) α} :
    St m ρ K c 32 21 16 32
      ⊢ iprop((St m ρ K c 32 26 16 32 -∗ WP c (k ⟨⟩) Q)
        -∗ WP c (onWhole (k0_part55 (F := F)) c >>= k) Q) := by
  simp only [k0_part55_eq_skeleton, k0_part55_skel, semSignalWord, semWaitWord, Prog.lift, Prog.bind_op, Prog.bind_ret, Prog.pure_eq_ret, bind_assoc, pure_bind]
  iintro HE Hk
  iapply (mv_swait m ρ K c 32 21 16 32 (by decide) (send_sem _ _ 21 rfl) rfl) $$ HE; iintro HE
  iapply (mv_swait m ρ K c 32 22 16 32 (by decide) (send_sem _ _ 22 rfl) rfl) $$ HE; iintro HE
  iapply (mv_swait m ρ K c 32 23 16 32 (by decide) (send_sem _ _ 23 rfl) rfl) $$ HE; iintro HE
  iapply (mv_swait m ρ K c 32 24 16 32 (by decide) (send_sem _ _ 24 rfl) rfl) $$ HE; iintro HE
  iapply (mv_swait m ρ K c 32 25 16 32 (by decide) (send_sem _ _ 25 rfl) rfl) $$ HE; iintro HE
  iapply Hk $$ HE

theorem part56
    {α : Type} {Q : α → sProp 𝕄} {k : (PUnit) → Prog (TpuEff nD τ sig (Elt F) Λ₀ .tc) α} :
    St m ρ K c 32 26 16 32
      ⊢ iprop((St m ρ K c 32 30 16 32 -∗ WP c (k ⟨⟩) Q)
        -∗ WP c (onWhole (k0_part56 (F := F)) c >>= k) Q) := by
  simp only [k0_part56_eq_skeleton, k0_part56_skel, semSignalWord, semWaitWord, Prog.lift, Prog.bind_op, Prog.bind_ret, Prog.pure_eq_ret, bind_assoc, pure_bind]
  iintro HE Hk
  iapply (mv_swait m ρ K c 32 26 16 32 (by decide) (send_sem _ _ 26 rfl) rfl) $$ HE; iintro HE
  iapply (mv_swait m ρ K c 32 27 16 32 (by decide) (send_sem _ _ 27 rfl) rfl) $$ HE; iintro HE
  iapply (mv_swait m ρ K c 32 28 16 32 (by decide) (send_sem _ _ 28 rfl) rfl) $$ HE; iintro HE
  iapply (mv_swait m ρ K c 32 29 16 32 (by decide) (send_sem _ _ 29 rfl) rfl) $$ HE; iintro HE
  iapply Hk $$ HE

end Cert.A2A

end
-- ==== Proof.Body.lean ====
/-
  The body of the kernel on one device, put together from its parts.
-/
module

public import proofs.«01_k».proof.Proof.Parts1
public import proofs.«01_k».proof.Proof.Parts2
public import proofs.«01_k».proof.Proof.Parts3

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

/-! ## The four groups of columns -/

theorem yv_0 : k0_pay6 (k0_pay4 (k0_pay3 (k0_pay2 (xs m ρ c 0) (wb m c 0)) (xs m ρ c 1) (wb m c 1)) (xs m ρ c 2) (wb m c 2)) (k0_pay5 (xs m ρ c 3) (wb m c 3)) = yv m ρ c 0 := rfl

theorem yv_1 : k0_pay13 (k0_pay11 (k0_pay9 (k0_pay8 (xs m ρ c 0) (wb m c 4)) (xs m ρ c 1) (wb m c 5)) (k0_pay10 (xs m ρ c 2) (wb m c 6))) (k0_pay12 (xs m ρ c 3) (wb m c 7)) = yv m ρ c 1 := rfl

theorem yv_2 : k0_pay21 (k0_pay20 (k0_pay18 (k0_pay16 (k0_pay14 (xs m ρ c 0) (wb m c 8)) (k0_pay15 (xs m ρ c 1) (wb m c 9))) (k0_pay17 (xs m ρ c 2) (wb m c 10))) (k0_pay19 (xs m ρ c 3) (wb m c 11))) = yv m ρ c 2 := rfl

theorem yv_3 : k0_pay26 (k0_pay25 (k0_pay24 (k0_pay22 (xs m ρ c 0) (wb m c 12)) (k0_pay23 (xs m ρ c 1) (wb m c 13)) (xs m ρ c 2) (wb m c 14)) (xs m ρ c 3) (wb m c 15)) = yv m ρ c 3 := rfl

/-! ## The body, part after part -/

theorem wp_done {α : Type} {v : α} {Q : α → sProp 𝕄} : (|={Set.univ}=> Q v) ⊢ WP c (.ret v) Q := by
  unfold WP
  rw [wp_ret]

set_option maxHeartbeats 1000000 in
/-- The body on device `c`: every block sent and waited for, every block here, the result stored. -/
theorem body_run (q : PosShare TreeShare) (f0 : Buf (Elt F) ((c : Thread nD τ).loc cc0_scratch0)) (f1 : Buf (Elt F) ((c : Thread nD τ).loc cc0_stg1_0))
    {Q : PUnit → sProp 𝕄} :
    SigS m ρ K c 1
      ⊢ iprop(Bar0 (F := F) c -∗ bigSep (Finset.Ico 1 17) (posAt (F := F) c) -∗ (((c : Thread nD τ).loc cc0_stg0_0) ↦{q} (xstg m ρ c)) -∗ (((c : Thread nD τ).loc cc0_scratch0) ↦{fullShare} f0) -∗ LRaw m c 0 0 -∗ LRaw m c 0 1 -∗ LRaw m c 1 0 -∗ LRaw m c 1 1 -∗ RawY (F := F) c 0 -∗ RawY (F := F) c 1 -∗ rawSlot (F := F) c c -∗ Rcv m ρ c 1 -∗ (((c : Thread nD τ).loc cc0_stg1_0) ↦{fullShare} f1) -∗
        (St m ρ K c 32 32 16 32 -∗ atPos ER (barCell c) 1 ∅ 0 -∗ (((c : Thread nD τ).loc cc0_stg0_0) ↦{q} (xstg m ρ c)) -∗ XS m ρ c -∗ LGot m c 0 0 14 -∗ LGot m c 0 1 14 -∗ LGot m c 1 0 15 -∗ LGot m c 1 1 15 -∗ rcvdPos (F := F) c -∗ Full m ρ c -∗ (((c : Thread nD τ).loc cc0_stg1_0) ↦{fullShare} (outAt m ρ c)) -∗ |={Set.univ}=> Q ⟨⟩)
        -∗ WP c (onWhole (cc0_body (F := F))) Q) := by
  simp only [cc0_body_eq_skeleton, cc0_body_skel, k0_part57_eq_skeleton, k0_part57_skel, Prog.lift, Prog.bind_op, Prog.bind_ret, Prog.pure_eq_ret, bind_assoc, pure_bind]
  iintro HE HB HP HI HX L00 L01 L10 L11 Y0 Y1 HM HV HO Hk
  iapply (part1 m ρ K c) $$ HE; iintro %_ %_ %_ HE
  iapply (part2 m ρ K c rfl) $$ HE; iintro %_ HE
  iapply (part3 m ρ K c rfl) $$ HE; iintro %_ HE
  iapply (part4 m ρ K c rfl) $$ HE; iintro %_ HE
  iapply (part5 m ρ K c rfl) $$ HE; iintro %_ HE
  iapply (part6 m ρ K c q f0 rfl) $$ HE HB HP HI HX L00; iintro HE HA HI HX L00
  iapply (part7 m ρ K c) $$ L01 L10 L11 HE L00; iintro %_ L01 L10 L11 HE L00
  iapply (part8 m ρ K c) $$ HE L01 HX L00 L10; iintro HE L01 HX L00 L10
  iapply (part9 m ρ K c) $$ HE L11 HX L10; iintro HE L11 HX L10
  iapply (part10 m ρ K c) $$ HE L00 L01 HX; iintro HE L00 L01 HX
  iapply (part11 m ρ K c) $$ HE L10 L11 HX; iintro HE L10 L11 HX
  iapply (part12 m ρ K c (yv_0 m ρ c)) $$ L11 HE Y0 HM; iintro L11 HE HM
  iapply (part13 m ρ K c) $$ HE; iintro %_ %_ HE
  iapply (part14 m ρ K c) $$ HE; iintro %_ HE
  iapply (part15 m ρ K c) $$ HE L00; iintro %_ HE L00
  iapply (part16 m ρ K c) $$ HE L01 HX L00; iintro HE L01 HX L00
  iapply (part17 m ρ K c) $$ HE L10 L11 HX; iintro HE L10 L11 HX
  iapply (part18 m ρ K c) $$ HE L00 L01 HX; iintro HE L00 L01 HX
  iapply (part19 m ρ K c) $$ L01 HE L10 L11 HX; iintro %_ %_ L01 HE L10 L11 HX
  iapply (part20 m ρ K c (yv_1 m ρ c)) $$ L11 HE Y1; iintro %_ %_ %_ L11 HE
  iapply (part21 m ρ K c) $$ HE; iintro %_ %_ HE
  iapply (part22 m ρ K c) $$ HE; iintro HE
  iapply (part23 m ρ K c) $$ HE; iintro HE
  iapply (part24 m ρ K c) $$ HE L00 L01 HX; iintro %_ HE L00 L01 HX
  iapply (part25 m ρ K c) $$ L01 HE L10 L11 HX; iintro %_ L01 HE L10 L11 HX
  iapply (part26 m ρ K c) $$ L10 L11 HE L00 L01 HX; iintro %_ L10 L11 HE L00 L01 HX
  iapply (part27 m ρ K c) $$ L00 L01 HE L10 L11 HX; iintro %_ L00 L01 HE L10 L11 HX
  iapply (part28 m ρ K c) $$ L10 L11 HE; iintro L10 L11 HE
  iapply (part29 m ρ K c) $$ HE; iintro HE
  iapply (part30 m ρ K c (yv_2 m ρ c)) $$ HE; iintro HE
  iapply (part31 m ρ K c) $$ HE; iintro HE
  iapply (part32 m ρ K c) $$ HE; iintro %_ HE
  iapply (part33 m ρ K c) $$ HE; iintro %_ HE
  iapply (part34 m ρ K c) $$ HE L00 L01 HX; iintro HE L00 L01 HX
  iapply (part35 m ρ K c) $$ HE L10 L11 HX; iintro HE L10 L11 HX
  iapply (part36 m ρ K c) $$ L11 HE L00 L01 HX L10; iintro L11 HE L00 L01 HX L10
  iapply (part37 m ρ K c) $$ HE L11 HX L10; iintro HE L11 HX L10
  iapply (part38 m ρ K c) $$ HE; iintro HE
  iapply (part39 m ρ K c (yv_3 m ρ c)) $$ HE; iintro HE
  iapply (part40 m ρ K c) $$ HE; iintro HE
  iapply (part41 m ρ K c) $$ HE; iintro %_ %_ HE
  iapply (part42 m ρ K c) $$ HE; iintro HE
  iapply (part43 m ρ K c) $$ HE HV; iintro %_ %_ HE HV
  iapply (part44 m ρ K c) $$ HE HV; iintro HE HV
  iapply (part45 m ρ K c) $$ HE HV; iintro %_ %_ HE HV
  iapply (part46 m ρ K c) $$ HE HV; iintro HE HV
  iapply (part47 m ρ K c) $$ HE HV; iintro HE HV
  iapply (part48 m ρ K c) $$ HE HV; iintro HE HV
  iapply (part49 m ρ K c) $$ HE HV; iintro HE HV
  iapply (part50 m ρ K c) $$ HE HV; iintro %_ %_ HE HV
  iapply (part51 m ρ K c) $$ HE HV; iintro HE HV
  iapply (part52 m ρ K c) $$ HE HV; iintro %_ %_ HE HV
  iapply (part53 m ρ K c f1) $$ HE HV HM HO; iintro HE HV HF HO
  iapply (part54 m ρ K c) $$ HE; iintro HE
  iapply (part55 m ρ K c) $$ HE; iintro HE
  iapply (part56 m ρ K c) $$ HE; iintro HE
  iapply (mv_swait m ρ K c 32 30 16 32 (by decide) (send_sem _ _ 30 rfl) rfl) $$ HE; iintro HE
  iapply (mv_swait m ρ K c 32 31 16 32 (by decide) (send_sem _ _ 31 rfl) rfl) $$ HE; iintro HE
  iapply (wp_done c)
  iapply Hk $$ HE HA HI HX L00 L01 L10 L11 HV HF HO

end Cert.A2A

end
-- ==== Proof.Setup.lean ====
/-
  The launch: the devices' cells funded, their invariants opened, the rights to pay dealt to who pays them, and what
  the devices owe each other turned into the right to wait for it.
-/
module

public import proofs.«01_k».proof.Proof.Body

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

/-! ## A device's cells, kind by kind -/

theorem ix_split : (Finset.univ : Finset (Fin 49)) = {0} ∪ ((Finset.Ico 1 17).image sendIx ∪ Finset.univ.image recvIx) := by decide +kernel
theorem sendIx_inj : Set.InjOn sendIx (Finset.Ico 1 17 : Finset ℕ) := by
  intro a ha b hb h
  rw [Finset.mem_coe, Finset.mem_Ico] at ha hb
  have h := congrArg Fin.val h
  unfold sendIx at h
  dsimp only at h
  omega
theorem recvIx_inj : Function.Injective recvIx := by
  intro a b h
  have h := congrArg Fin.val h
  unfold recvIx at h
  dsimp only at h
  exact Fin.ext (by omega)

/-- The barrier, the send semaphores, the device's own receive semaphore, the others. -/
theorem ix_parts (c : Dev nD) (A : Fin 49 → sProp 𝕄) :
    bigSep Finset.univ A
      = iprop(A 0 ∗ bigSep (Finset.Ico 1 17) (fun k => A (sendIx k)) ∗ A (recvIx c) ∗ bigSep (Finset.Ico 1 32) (fun q => A (recvIx (rot c q)))) := by
  rw [ix_split, bigSep_union (by decide +kernel), bigSep_singleton, bigSep_union (by decide +kernel), bigSep_image_of_injOn sendIx_inj,
    bigSep_image_of_injOn recvIx_inj.injOn, all_rot c (fun d => A (recvIx d))]
  rfl

/-! ## The kernel's own semaphores -/

set_option backward.proofsInPublic true in
/-- The scoped semaphores the kernel names: the four copy lanes, the send and the receive semaphores. -/
def osem (i : Fin 52) : SemLoc sig := .dma ⟨i.val + 2, by show _ < 54; omega⟩
set_option backward.proofsInPublic true in
def laneIx (i : Fin 4) : Fin 52 := ⟨i.val, by omega⟩
set_option backward.proofsInPublic true in
def cellIx (i : Fin 48) : Fin 52 := ⟨i.val + 4, by omega⟩

theorem ownSemFacts : Pipeline.OwnSemFacts cfg0.spec osem := by decide +kernel

/-- The lanes' semaphores at zero. -/
def lanes0 (c : Dev nD) : sProp 𝕄 :=
  iprop(semVal ((c : Thread nD τ), laneSem 0 0) 0 ∗ semVal ((c : Thread nD τ), laneSem 0 1) 0
    ∗ semVal ((c : Thread nD τ), laneSem 1 0) 0 ∗ semVal ((c : Thread nD τ), laneSem 1 1) 0)

omit [FloatOps F] in
theorem unscopedSems0_eq (c : Dev nD) : (unscopedSems0 c : sProp 𝕄) = semVal (barCell c) 0 := by
  unfold unscopedSems0; rw [bigSep_eq_bigSepL_of_eq [SemLoc.reg barrier0] (by decide +kernel) (by decide)]; rfl

theorem own_split : (Finset.univ : Finset (Fin 52)) = Finset.univ.image laneIx ∪ Finset.univ.image cellIx := by decide +kernel
theorem laneIx_inj : Function.Injective laneIx := fun a b h => Fin.ext (congrArg (fun x : Fin 52 => x.val) h)
theorem cellIx_inj : Function.Injective cellIx := fun a b h => Fin.ext (Nat.add_right_cancel (congrArg (fun x : Fin 52 => x.val) h))
theorem succ_split : (Finset.univ : Finset (Fin 49)) = {0} ∪ Finset.univ.image (Fin.succ : Fin 48 → Fin 49) := by decide +kernel

theorem osem_lane (c : Dev nD) : (bigSep Finset.univ (fun i : Fin 4 => semVal ((c : Thread nD τ), osem (laneIx i)) 0) : sProp 𝕄) = lanes0 c := by
  rw [four]; rfl
theorem osem_cell (c : Dev nD) (i : Fin 48) : (((c : Thread nD τ), osem (cellIx i)) : GSem nD τ sig) = kcell (c, i.succ) := by
  refine Prod.ext rfl ?_
  show osem (cellIx i) = csem i.succ
  unfold osem cellIx csem
  rw [if_neg (by rw [Fin.val_succ]; omega)]
  congr 1

/-- All the counters the kernel names, at zero: the lanes' and the exchange's. -/
theorem sems0_eq (c : Dev nD) :
    iprop(Pipeline.ownSems0 (Ix := Unit) (Name := ℕ) (U := UU) (Lvl := ℕ) (Val := Elt F) (τ := τ) osem c ∗ unscopedSems0 c)
      ⊣⊢ (iprop(lanes0 c ∗ bigSep Finset.univ fun k : Fin 49 => semVal (kcell (c, k)) 0) : sProp 𝕄) := by
  have h1 : (Pipeline.ownSems0 (Ix := Unit) (Name := ℕ) (U := UU) (Lvl := ℕ) (Val := Elt F) (τ := τ) osem c : sProp 𝕄)
      = iprop(lanes0 c ∗ bigSep Finset.univ fun i : Fin 48 => semVal (kcell (c, i.succ)) 0) := by
    unfold Pipeline.ownSems0
    rw [own_split, bigSep_union (by decide +kernel), bigSep_image_of_injOn laneIx_inj.injOn, bigSep_image_of_injOn cellIx_inj.injOn, osem_lane,
      bigSep_congr fun i _ => by rw [osem_cell]]
    rfl
  have h2 : (bigSep Finset.univ (fun k : Fin 49 => semVal (kcell (c, k)) 0) : sProp 𝕄)
      = iprop(semVal (barCell c) 0 ∗ bigSep Finset.univ fun i : Fin 48 => semVal (kcell (c, i.succ)) 0) := by
    rw [succ_split, bigSep_union (by decide +kernel), bigSep_singleton, bigSep_image_of_injOn (Fin.succ_injective 48).injOn]
    rfl
  rw [h1, h2, unscopedSems0_eq]
  constructor
  · iintro ⟨⟨HL, HS⟩, HB⟩; iframe
  · iintro ⟨HL, HB, HS⟩; iframe

/-! ## The cells and the rights to pay, minted -/

theorem csem_inj : Function.Injective csem := by decide +kernel
theorem kcell_inj : Function.Injective (kcell : Dev nD × Fin 49 → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_inj⟩

/-- The three rights device `c` has for its signal and block number `j + 1`. -/
def tokOf (x : Dev nD × Fin 31 × Fin 3) : GSem nD τ sig × ℕ × Dev nD :=
  match x.2.2 with
  | 0 => (barCell (rot x.1 (x.2.1.val + 1)), 0, x.1)
  | 1 => (recvCell (dest x.1 (x.2.1.val + 1)) x.1, 0, x.1)
  | 2 => (sendCell x.1 (x.2.1.val + 1), rnd (x.2.1.val + 1), x.1)

/-- The kind of a right, read off its semaphore. -/
def kindOf (sm : SemLoc sig) : Fin 3 :=
  match sm with
  | .reg _ => 0
  | .dma s => if s.val < 22 then 2 else 1
theorem kindOf_tok (x : Dev nD × Fin 31 × Fin 3) : kindOf (tokOf x).1.2 = x.2.2 := by
  obtain ⟨c, j, i⟩ := x
  match i with
  | 0 => rfl
  | 1 => exact if_neg (by show ¬ (22 + c.val < 22); omega)
  | 2 => exact if_pos (by show 6 + (j.val + 1) % 16 < 22; omega)
theorem owner_tok (x : Dev nD × Fin 31 × Fin 3) : (tokOf x).2.2 = x.1 := by
  obtain ⟨c, j, i⟩ := x
  match i with
  | 0 => rfl
  | 1 => rfl
  | 2 => rfl

theorem tokOf_inj : Function.Injective tokOf := by
  rintro ⟨c, j, i⟩ ⟨c', j', i'⟩ h
  have hi : i = i' := (kindOf_tok (c, j, i)).symm.trans ((congrArg (fun y => kindOf y.1.2) h).trans (kindOf_tok (c', j', i')))
  have hc : c = c' := (owner_tok (c, j, i)).symm.trans ((congrArg (fun y => y.2.2) h).trans (owner_tok (c', j', i')))
  subst hi hc
  have hj : j.val + 1 = j'.val + 1 := by
    match i, h with
    | 0, h => exact rot_inj c _ _ (by omega) (by omega) (congrArg (fun y : GSem nD τ sig × ℕ × Dev nD => y.1.1.1) h)
    | 1, h => exact dest_inj c _ _ (by omega) (by omega) (congrArg (fun y : GSem nD τ sig × ℕ × Dev nD => y.1.1.1) h)
    | 2, h =>
      have h1 : sendS (j.val + 1) = sendS (j'.val + 1) := SemLoc.dma.inj (congrArg (fun y : GSem nD τ sig × ℕ × Dev nD => y.1.2) h)
      have h2 : rnd (j.val + 1) = rnd (j'.val + 1) := congrArg (fun y : GSem nD τ sig × ℕ × Dev nD => y.2.1) h
      have h1 := congrArg Fin.val h1
      unfold rnd at h2
      dsimp only at h1
      omega
  have hj : j = j' := Fin.ext (by omega)
  rw [hj]
def allToks : Finset (GSem nD τ sig × ℕ × Dev nD) := Finset.univ.map ⟨tokOf, tokOf_inj⟩

theorem ico_image : Finset.Ico 1 32 = Finset.univ.image (fun j : Fin 31 => j.val + 1) := by decide +kernel
theorem ico_fin (A : ℕ → sProp 𝕄) : bigSep (Finset.Ico 1 32) A = bigSep Finset.univ fun j : Fin 31 => A (j.val + 1) := by
  rw [ico_image, bigSep_image_of_injOn]
  intro a _ b _ h
  exact Fin.ext (Nat.add_right_cancel h)

/-- The rights device `c` pays with. -/
def toks (c : Dev nD) : sProp 𝕄 := iprop(bigSep (Finset.Ico 1 32) (fun q => dutyTok ER (barCell (rot c q)) 0 c) ∗ bigSep (Finset.Ico 1 32) (tokAt c))

theorem three (A : Fin 3 → sProp 𝕄) : bigSep Finset.univ A = iprop(A 0 ∗ A 1 ∗ A 2) := by
  rw [show (Finset.univ : Finset (Fin 3)) = {0, 1, 2} by decide, bigSep_insert (by decide), bigSep_insert (by decide), bigSep_singleton]
  rfl

theorem toks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_prod]
  unfold toks
  rw [ico_fin, ico_fin, ← bigSep_sep']
  refine bigSep_congr fun j _ => ?_
  rw [three]
  rfl
theorem cells_eq (A : GSem nD τ sig → sProp 𝕄) :
    bigSep allCells A = bigSep Finset.univ fun c : Dev nD => bigSep Finset.univ fun k : Fin 49 => A (kcell (c, k)) := by
  unfold allCells; rw [bigSep_map, bigSep_univ_prod]; rfl

def u₀ : UU := (initOf (Pipeline.cells cfgs cellOf_inj) (Pipeline.launchToks cfgs cellOf_inj), (initOf allCells allToks, 1))

/-- What the launch deals device `c`. -/
def G (c : Dev nD) : sProp 𝕄 :=
  iprop((bigSep Finset.univ fun k : Fin 49 => roundState ER (Rd m ρ) (kcell (c, k)) 0)
    ∗ (bigSep Finset.univ fun k : Fin 49 => reached ER (kcell (c, k)) 0)
    ∗ (bigSep Finset.univ fun k : Fin 49 => atPos ER (kcell (c, k)) 0 ∅ 0) ∗ toks c)

theorem fund_all : BI.own (ER (initOf allCells allToks)) ⊢ (|==> bigSep Finset.univ (G m ρ) : sProp 𝕄) := by
  have hG : bigSep Finset.univ (G m ρ) = iprop((bigSep Finset.univ fun c : Dev nD => bigSep Finset.univ fun k : Fin 49 => roundState ER (Rd m ρ) (kcell (c, k)) 0)
      ∗ (bigSep Finset.univ fun c : Dev nD => bigSep Finset.univ fun k : Fin 49 => reached ER (kcell (c, k)) 0)
      ∗ (bigSep Finset.univ fun c : Dev nD => bigSep Finset.univ fun k : Fin 49 => atPos ER (kcell (c, k)) 0 ∅ 0) ∗ bigSep Finset.univ fun c : Dev nD => toks c) := by
    unfold G; rw [bigSep_sep', bigSep_sep', bigSep_sep']
  rw [hG, ← cells_eq (fun g => roundState ER (Rd m ρ) g 0), ← cells_eq (fun g => reached ER g 0), ← cells_eq (fun g => atPos ER g 0 ∅ 0), ← toks_eq]
  exact Rounds.fund ER (Rd m ρ) allCells allToks

/-! ## The cells' invariants -/

/-- Every cell's invariant and start. -/
def cellRecs : sProp 𝕄 := bigSep Finset.univ (fun ck : Dev nD × Fin 49 => iprop(cellInv ER (Rd m ρ) (K ck) (kcell ck) ∗ reached ER (kcell ck) 0))
instance cellRecs_persistent : BI.Persistent (cellRecs m ρ K) := by unfold cellRecs; infer_instance

/-- What stays with device `c`. -/
def mine (c : Dev nD) : sProp 𝕄 := iprop((bigSep Finset.univ fun k : Fin 49 => atPos ER (kcell (c, k)) 0 ∅ 0) ∗ toks c ∗ lanes0 c)
/-- What the launch makes of a device's dealing. -/
def G' (c : Dev nD) : sProp 𝕄 := iprop(∃ K, cellRecs m ρ K ∗ mine c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k)) ∗ reached ER (kcell (c, k)) 0)) ∗ mine c) := by
  have hone (k : Fin 49) : (iprop(semVal (kcell (c, k)) 0 ∗ roundState ER (Rd m ρ) (kcell (c, k)) 0 ∗ reached ER (kcell (c, k)) 0) : sProp 𝕄)
      ⊢ |={Set.univ}=> iprop(∃ κ : ℕ, cellInv ER (Rd m ρ) κ (kcell (c, k)) ∗ reached ER (kcell (c, k)) 0) := by
    iintro ⟨H0, HS, HR⟩
    imod ((Rounds.body_intro ER (Rd m ρ) (kcell (c, k))).trans inv_alloc) $$ [H0 HS] with ⟨%κ, HI⟩
    · isplitl [H0] <;> iassumption
    imodintro
    iexists κ
    isplitl [HI] <;> iassumption
  have hall : (bigSep Finset.univ (fun k : Fin 49 => iprop(semVal (kcell (c, k)) 0 ∗ roundState ER (Rd m ρ) (kcell (c, k)) 0 ∗ reached ER (kcell (c, k)) 0)) : sProp 𝕄)
      ⊢ |={Set.univ}=> bigSep Finset.univ fun k => iprop(∃ κ : ℕ, cellInv ER (Rd m ρ) κ (kcell (c, k)) ∗ reached ER (kcell (c, k)) 0) :=
    (bigSep_mono fun k _ => hone k).trans (bigSep_fupd _ _)
  rw [bigSep_sep', bigSep_sep'] at hall
  unfold G mine
  iintro ⟨Hos, Hus, Hst, Hre, Hat, Htok⟩
  ihave ⟨HL, Hv⟩ := (sems0_eq (F := F) c).1 $$ [Hos Hus]
  · isplitl [Hos] <;> iassumption
  imod hall $$ [Hv Hst Hre] with HI
  · iframe
  imodintro
  iframe

/-- A common resource that stays put, given to every member of a family. -/
theorem share_common {I : Type} [DecidableEq I] {S : Finset I} {R : sProp 𝕄} [BI.Persistent R] (A : I → sProp 𝕄) :
    iprop(R ∗ bigSep S A) ⊢ bigSep S (fun i => iprop(R ∗ A i)) := by
  rw [bigSep_sep']
  exact sep_mono_left (BI.bigSep_of_persistent S R)

theorem give (c : Dev nD) : iprop(cellRecs m ρ K ∗ mine c) ⊢ G' m ρ c := by
  unfold G'; iintro H; iexists K; iexact H

theorem regroup :
    (bigSep Finset.univ fun c : Dev nD => iprop((bigSep Finset.univ fun k => iprop(∃ κ : ℕ, cellInv ER (Rd m ρ) κ (kcell (c, k)) ∗ reached ER (kcell (c, k)) 0)) ∗ mine c) : sProp 𝕄)
      ⊢ bigSep Finset.univ (G' m ρ) := by
  rw [bigSep_sep', ← bigSep_univ_prod (fun ck : Dev nD × Fin 49 => iprop(∃ κ : ℕ, cellInv ER (Rd m ρ) κ (kcell ck) ∗ reached ER (kcell ck) 0))]
  have hK := BI.bigSep_exists_pi Finset.univ (fun (ck : Dev nD × Fin 49) (κ : ℕ) => (iprop(cellInv ER (Rd m ρ) κ (kcell ck) ∗ reached ER (kcell ck) 0) : sProp 𝕄))
  have hG (K : Dev nD × Fin 49 → ℕ) : (bigSep Finset.univ (fun c : Dev nD => iprop(cellRecs m ρ K ∗ mine c)) : sProp 𝕄) ⊢ bigSep Finset.univ (G' m ρ) :=
    bigSep_mono fun c _ => give m ρ K c
  iintro ⟨HI, HM⟩
  ihave ⟨%K, HI⟩ := hK $$ HI
  iapply (hG K)
  iapply (share_common (R := cellRecs m ρ K) mine)
  unfold cellRecs
  isplitl [HI] <;> iassumption

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed at launch -/

theorem rot_count : ∀ c : Dev nD, (∑ d : Dev nD, ∑ q ∈ Finset.Ico 1 32, if rot d q = c then 1 else 0) = 31 := by decide +kernel
theorem dest_count : ∀ s c : Dev nD, s ≠ c → (∑ k ∈ Finset.Ico 1 32, if dest s k = c then 1 else 0) = 1 := by decide +kernel

theorem barCell_eq {a b : Dev nD} : barCell a = barCell b ↔ a = b := ⟨fun h => congrArg (fun g : GSem nD τ sig => g.1.1) h, fun h => by rw [h]⟩
theorem bar_ne_recv {a b s : Dev nD} : barCell a ≠ recvCell b s := fun h => absurd (congrArg (fun g : GSem nD τ sig => g.2) h) (fun h' => nomatch h')
theorem recvCell_eq {a b s t : Dev nD} : recvCell a s = recvCell b t ↔ a = b ∧ s = t := by
  constructor
  · intro h
    have h1 := congrArg (fun g : GSem nD τ sig => g.1.1) h
    have h2 : recvS s = recvS t := SemLoc.dma.inj (congrArg (fun g : GSem nD τ sig => g.2) h)
    have h2 := congrArg Fin.val h2
    dsimp only at h2
    exact ⟨h1, Fin.ext (by omega)⟩
  · rintro ⟨rfl, rfl⟩; rfl

theorem owed_bar (d c : Dev nD) : owed d 1 1 (barCell c) () = ∑ q ∈ Finset.Ico 1 32, if rot d q = c then 1 else 0 := by
  unfold owed
  rw [Pi.add_apply, Finsupp.add_apply, Finset.sum_apply, Finset.sum_apply, Finsupp.finset_sum_apply, Finsupp.finset_sum_apply]
  rw [Finset.sum_eq_zero (s := Finset.Ico 1 32) (f := fun k => (tallyAt (recvCell (dest d k) d) () N : CellTallies nD τ sig Unit) (barCell c) ()) fun k _ => by
    rw [tallyAt_apply]; exact if_neg fun h => bar_ne_recv h.1]
  rw [Nat.add_zero]
  refine Finset.sum_congr rfl fun q _ => ?_
  rw [tallyAt_apply]
  exact if_congr ⟨fun h => (barCell_eq.mp h.1).symm, fun h => ⟨barCell_eq.mpr h.symm, rfl⟩⟩ rfl rfl

theorem owed_recv (d c s : Dev nD) : owed d 1 1 (recvCell c s) () = if d = s then (∑ k ∈ Finset.Ico 1 32, if dest s k = c then 1 else 0) * N else 0 := by
  unfold owed
  rw [Pi.add_apply, Finsupp.add_apply, Finset.sum_apply, Finset.sum_apply, Finsupp.finset_sum_apply, Finsupp.finset_sum_apply]
  rw [Finset.sum_eq_zero (s := Finset.Ico 1 32) (f := fun q => (tallyAt (barCell (rot d q)) () 1 : CellTallies nD τ sig Unit) (recvCell c s) ()) fun k _ => by
    rw [tallyAt_apply]; exact if_neg fun h => bar_ne_recv h.1.symm]
  rw [Nat.zero_add]
  split
  · rename_i hd
    subst hd
    rw [Finset.sum_mul]
    refine Finset.sum_congr rfl fun k _ => ?_
    rw [tallyAt_apply, ite_mul, one_mul, zero_mul]
    exact if_congr ⟨fun h => (recvCell_eq.mp h.1).1.symm, fun h => ⟨recvCell_eq.mpr ⟨h.symm, rfl⟩, rfl⟩⟩ rfl rfl
  · rename_i hd
    exact Finset.sum_eq_zero fun k _ => by
      rw [tallyAt_apply]; exact if_neg fun h => hd (recvCell_eq.mp h.1).2.symm

/-- What the devices owe at launch. -/
abbrev O₀ (c : Dev nD) : CellTallies nD τ sig Unit := owed c 1 1

theorem launch_bar (c : Dev nD) :
    tallyOn (barCell c) (launchCredit (Pipeline.owing O₀) 0 (barCell c)) = (tallyAt (barCell c) () 31 : CellTallies nD τ sig Unit) := by
  unfold tallyAt
  refine congrArg _ (Finsupp.ext fun u => ?_)
  cases u
  rw [Pipeline.launchCredit_owing, Finsupp.single_eq_same, Finset.sum_congr rfl fun d _ => owed_bar d c, rot_count]
theorem launch_recv (c s : Dev nD) (h : s ≠ c) :
    tallyOn (recvCell c s) (launchCredit (Pipeline.owing O₀) 0 (recvCell c s)) = (tallyAt (recvCell c s) () N : CellTallies nD τ sig Unit) := by
  unfold tallyAt
  refine congrArg _ (Finsupp.ext fun u => ?_)
  cases u
  rw [Pipeline.launchCredit_owing, Finsupp.single_eq_same, Finset.sum_congr rfl fun d _ => owed_recv d c s, Finset.sum_ite_eq' Finset.univ s,
    if_pos (Finset.mem_univ _), dest_count s c h, one_mul]

/-- The right of device `c` to wait for what the others owe it. -/
def due (c : Dev nD) : sProp 𝕄 := iprop(cred (tallyAt (barCell c) () 31) ∗ bigSep (Finset.Ico 1 32) fun q => cred (tallyAt (recvCell c (rot c q)) () N))

theorem creds (c : Dev nD) : (Pipeline.launchCred O₀ c : sProp 𝕄) ⊢ due c := by
  unfold Pipeline.launchCred due
  rw [bigSep_univ_at _ (SemLoc.reg barrier0), launch_bar]
  refine sep_mono_right ?_
  have hinj : Set.InjOn (fun q => SemLoc.dma (recvS (rot c q)) : ℕ → SemLoc sig) (Finset.Ico 1 32 : Finset ℕ) := by
    intro a ha b hb h
    rw [Finset.mem_coe, Finset.mem_Ico] at ha hb
    have h := congrArg Fin.val (SemLoc.dma.inj h)
    dsimp only at h
    exact rot_inj c a b ha.2 hb.2 (Fin.ext (by omega))
  refine (bigSep_subset (t := (Finset.Ico 1 32).image (fun q => SemLoc.dma (recvS (rot c q)))) ?_).trans ?_
  · intro x hx
    obtain ⟨q, -, rfl⟩ := Finset.mem_image.mp hx
    exact Finset.mem_erase.mpr ⟨(fun h => nomatch h), Finset.mem_univ _⟩
  · rw [bigSep_image_of_injOn hinj]
    refine Entails.of_eq (bigSep_congr fun q hq => ?_)
    rw [Finset.mem_Ico] at hq
    exact congrArg _ (launch_recv c (rot c q) (rot_ne c q hq.1 hq.2))

end Cert.A2A

end
-- ==== Proof.Run.lean ====
/-
  The launch carried through: the body between what the launch deals a device and what it takes back, every semaphore
  closed at zero, and the run of the whole machine.
-/
module

public import proofs.«01_k».proof.Proof.Setup
public import proofs.«01_k».proof.Proof.Gen.KernelIdeal.Points
public import Idealize.ShloMosaic.Lib.Pipeline.CollectiveSegs

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

/-! ## A device's semaphores, closed -/

theorem close_send (k : ℕ) (h : 32 ≤ k ∧ k < 48) : iprop(Recs m ρ K ∗ posAt c k) ⊢ |={Set.univ}=> semVal (kcell (c, sendIx k)) 0 := by
  rw [kcell_send]
  unfold posAt
  iintro ⟨#HR, HA, -⟩
  ihave ⟨#HI, -⟩ := (recs_send m ρ K c k) $$ HR
  iapply (Rounds.cell_close ER (Rd m ρ) (Set.mem_univ (K (c, sendIx k))) (fun h => h) (R := rnd k)
    (fun r hr => duties_send_later m ρ c k r (by unfold rnd at hr; omega) (by unfold rnd at hr; omega))) $$ [HA]
  isplitr; · iexact HI
  iexact HA
theorem close_recv (q : ℕ) : iprop(Recs m ρ K ∗ atPos ER (recvCell c (rot c q)) 1 ∅ 0) ⊢ |={Set.univ}=> semVal (kcell (c, recvIx (rot c q))) 0 := by
  rw [kcell_recv]
  iintro ⟨#HR, HA⟩
  ihave ⟨#HI, -⟩ := (recs_recv m ρ K c (rot c q)) $$ HR
  iapply (Rounds.cell_close ER (Rd m ρ) (Set.mem_univ (K (c, recvIx (rot c q)))) (fun h => h) (R := 1)
    (fun r hr => duties_recv_later m ρ c (rot c q) r hr)) $$ [HA]
  isplitr; · iexact HI
  iexact HA
theorem close_own : iprop(Recs m ρ K ∗ atPos ER (recvCell c c) 0 ∅ 0) ⊢ |={Set.univ}=> semVal (kcell (c, recvIx c)) 0 := by
  rw [kcell_recv]
  iintro ⟨#HR, HA⟩
  ihave ⟨#HI, -⟩ := (recs_recv m ρ K c c) $$ HR
  iapply (Rounds.cell_close ER (Rd m ρ) (Set.mem_univ (K (c, recvIx c))) (fun h => h) (R := 0)
    (fun r _ => duties_recv_own m ρ c r)) $$ [HA]
  isplitr; · iexact HI
  iexact HA
theorem close_bar : iprop(Recs m ρ K ∗ atPos ER (barCell c) 1 ∅ 0) ⊢ |={Set.univ}=> semVal (kcell (c, 0)) 0 := by
  iintro ⟨#HR, HA⟩
  ihave ⟨#HI, -⟩ := (recs_bar m ρ K c) $$ HR
  iapply (Rounds.cell_close ER (Rd m ρ) (Set.mem_univ (K (c, 0))) (fun h => h) (R := 1)
    (fun r hr => duties_bar_later m ρ c r hr)) $$ [HA]
  isplitr; · iexact HI
  iexact HA

/-- One update per member, with a common resource that stays put. -/
theorem close_family {S : Finset ℕ} {A B : ℕ → sProp 𝕄} (h : ∀ k ∈ S, iprop(Recs m ρ K ∗ A k) ⊢ |={Set.univ}=> B k) :
    iprop(Recs m ρ K ∗ bigSep S A) ⊢ |={Set.univ}=> bigSep S B :=
  (share_common (R := Recs m ρ K) A).trans ((bigSep_mono h).trans (bigSep_fupd _ _))

theorem send_images : (Finset.Ico 32 48).image sendIx = (Finset.Ico 1 17).image sendIx := by decide +kernel
theorem sendIx_inj' : Set.InjOn sendIx (Finset.Ico 32 48 : Finset ℕ) := by
  intro a ha b hb h
  rw [Finset.mem_coe, Finset.mem_Ico] at ha hb
  have h := congrArg Fin.val h
  unfold sendIx at h
  dsimp only at h
  omega
theorem send_again (A : Fin 49 → sProp 𝕄) : bigSep (Finset.Ico 32 48) (fun k => A (sendIx k)) = bigSep (Finset.Ico 1 17) (fun k => A (sendIx k)) := by
  rw [← bigSep_image_of_injOn sendIx_inj', send_images, bigSep_image_of_injOn sendIx_inj]

/-- All of a device's semaphores of the exchange, past their last round. -/
theorem close_all :
    iprop(Recs m ρ K ∗ atPos ER (barCell c) 1 ∅ 0 ∗ bigSep (Finset.Ico 32 48) (posAt c) ∗ atPos ER (recvCell c c) 0 ∅ 0 ∗ rcvdPos c)
      ⊢ |={Set.univ}=> (bigSep Finset.univ (fun k : Fin 49 => semVal (kcell (c, k)) 0) : sProp 𝕄) := by
  have hs := close_family m ρ K (fun k hk => close_send m ρ K c k (Finset.mem_Ico.mp hk))
  have hr := close_family m ρ K (S := Finset.Ico 1 32) (fun q _ => close_recv m ρ K c q)
  rw [send_again (fun i => semVal (kcell (c, i)) 0)] at hs
  rw [ix_parts c (fun k => semVal (kcell (c, k)) 0)]
  unfold rcvdPos
  iintro ⟨#HR, HB, HS, HO, HV⟩
  imod (close_bar m ρ K c) $$ [HB] with HB
  · isplitr; · iexact HR
    iexact HB
  imod hs $$ [HS] with HS
  · isplitr; · iexact HR
    iexact HS
  imod (close_own m ρ K c) $$ [HO] with HO
  · isplitr; · iexact HR
    iexact HO
  imod hr $$ [HV] with HV
  · isplitr; · iexact HR
    iexact HV
  imodintro
  iframe

/-! ## The body, from what the launch deals to what it takes back -/

/-- The weights of device `c`, whole. -/
def wPts : sProp 𝕄 := ((c : Thread nD τ).loc main_arg1) ↦{fullShare} (Wm m c)

/-- What device `c` starts from. -/
def start : sProp 𝕄 := iprop((∃ K, cellRecs m ρ K ∗ mine c) ∗ due c ∗ levAts L lv ∗ wPts m c)

/-- The body's buffers besides the two staged ones, each at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ : sProp 𝕄 := iprop(start m ρ c ∗ scratch c)
def Φ₁ : sProp 𝕄 := iprop(wPts m c ∗ lanes0 c ∗ (bigSep Finset.univ fun k : Fin 49 => semVal (kcell (c, k)) 0) ∗ scratch c)

theorem pos_begin : iprop(Recs m ρ K ∗ bigSep Finset.univ (fun k : Fin 49 => atPos ER (kcell (c, k)) 0 ∅ 0))
    ⊢ iprop(atPos ER (barCell c) 0 ∅ 0 ∗ bigSep (Finset.Ico 1 17) (posAt (F := F) c) ∗ atPos ER (recvCell c c) 0 ∅ 0
        ∗ bigSep (Finset.Ico 1 32) fun q => atPos ER (recvCell c (rot c q)) 0 ∅ 0) := by
  have hp (k : ℕ) (hk : k ∈ Finset.Ico 1 17) : iprop(Recs m ρ K ∗ atPos ER (kcell (c, sendIx k)) 0 ∅ 0) ⊢ (posAt c k : sProp 𝕄) := by
    rw [kcell_send]
    unfold posAt
    rw [Finset.mem_Ico] at hk
    rw [show rnd k = 0 by unfold rnd; omega]
    iintro ⟨#HR, HA⟩
    ihave ⟨-, #HI⟩ := (recs_send m ρ K c k) $$ HR
    isplitl [HA]; · iexact HA
    iexact HI
  have hall : iprop(Recs m ρ K ∗ bigSep (Finset.Ico 1 17) (fun k => atPos ER (kcell (c, sendIx k)) 0 ∅ 0)) ⊢ (bigSep (Finset.Ico 1 17) (posAt c) : sProp 𝕄) :=
    (share_common (R := Recs m ρ K) _).trans (bigSep_mono hp)
  rw [ix_parts c (fun k => atPos ER (kcell (c, k)) 0 ∅ 0)]
  simp only [kcell_recv]
  iintro ⟨#HR, HB, HS, HO, HV⟩
  ihave HS := hall $$ [HS]
  · isplitr; · iexact HR
    iexact HS
  isplitl [HB]; · iexact HB
  iframe

theorem sig_begin : iprop((bigSep (Finset.Ico 1 32) fun q => dutyTok ER (barCell (rot c q)) 0 c) ∗ bigSep (Finset.Ico 1 32) fun q => rawSlot (F := F) c (rot c q))
    ⊢ Sig (F := F) c 1 := by
  unfold Sig sigAt; rw [bigSep_sep']
theorem rcv_begin : iprop((bigSep (Finset.Ico 1 32) fun q => atPos ER (recvCell c (rot c q)) 0 ∅ 0) ∗ bigSep (Finset.Ico 1 32) fun q => cred (tallyAt (recvCell c (rot c q)) () N))
    ⊢ Rcv m ρ c 1 := by
  unfold Rcv rcvAt; rw [bigSep_sep', Finset.Ico_self, bigSep_empty]
  iintro H
  isplitl [H]; · iexact H
  iempintro

/-- What the exchange leaves of the send buffer. -/
theorem ys_end : (bigSep (Finset.Ico 16 32) (ysAt m ρ c) : sProp 𝕄)
    ⊢ iprop(∃ f : Buf (Elt F) ((c : Thread nD τ).loc cc0_scratch2), ((c : Thread nD τ).loc cc0_scratch2) ↦{fullShare} f) := by
  rw [run_append (b := 24) (by decide) (by decide)]
  exact (BI.sep_mono (ys_raw m ρ c 2) (ys_raw m ρ c 3)).trans (ys_whole c)

set_option maxHeartbeats 1000000 in
theorem body_sound (f1 : Buf (Elt F) ((c : Thread nD τ).loc cc0_stg1_0)) {Q : PUnit → sProp 𝕄} :
    iprop(Φ₀ m ρ c ∗ Owe c 1 1 ∗ (((c : Thread nD τ).loc cc0_stg0_0) ↦{fullShare} (xstg m ρ c)) ∗ (((c : Thread nD τ).loc cc0_stg1_0) ↦{fullShare} f1))
      ⊢ iprop(((Φ₁ m c ∗ Owe c 32 32 ∗ (((c : Thread nD τ).loc cc0_stg0_0) ↦{fullShare} (xstg m ρ c)) ∗ (((c : Thread nD τ).loc cc0_stg1_0) ↦{fullShare} (outAt m ρ c))) -∗ Q ⟨⟩)
        -∗ WP c (onWhole (cc0_body (F := F))) Q) := by
  unfold Φ₀ start mine toks due scratch
  iintro ⟨⟨⟨⟨%K, #HC, HP, ⟨HTB, HTS⟩, HL⟩, ⟨HcB, HcV⟩, #Hlev, HW⟩, ⟨%f0, H0⟩, H1, ⟨%f2, H2⟩, ⟨%f3, H3⟩⟩, HO, HI, HS⟩ Hk
  ihave #HR := (show iprop(cellRecs m ρ K ∗ levAts L lv) ⊢ Recs m ρ K from by unfold Recs cellRecs; iintro H; iexact H) $$ [HC Hlev]
  · isplitr; · iexact HC
    iexact Hlev
  ihave ⟨HaB, HaS, HaO, HaV⟩ := (pos_begin m ρ K c) $$ [HP]
  · isplitr; · iexact HR
    iexact HP
  ihave ⟨HrO, Hraw⟩ := (recv_raw c f3) $$ H3
  ihave ⟨HY0, HY1⟩ := (ys_split c f2) $$ H2
  ihave HV := (rcv_begin m ρ c) $$ [HaV HcV]
  · isplitl [HaV] <;> iassumption
  ihave HSg := (sig_begin c) $$ [HTB Hraw]
  · isplitl [HTB] <;> iassumption
  unfold lanes0 wPts
  ihave ⟨Hrest, L00, L01, L10, L11⟩ := (lanes_intro m c) $$ [H1 HW HL]
  · iframe
  iapply (body_run m ρ K c fullShare f0 f1) $$ [HO HSg] [HcB HaB HTS] HaS HI H0 L00 L01 L10 L11 HY0 HY1 HrO HV HS
  · unfold SigS
    isplitr; · iexact HR
    isplitl [HO] <;> iassumption
  · unfold Bar0
    iframe
  iintro HE HaB HI HX L00 L01 L10 L11 HaV HF HS
  unfold St Ex
  icases HE with ⟨-, HO, -, HaS, -, -, HY⟩
  imod (close_all m ρ K c) $$ [HaB HaS HaO HaV] with HZ
  · isplitr; · iexact HR
    isplitl [HaB]; · iexact HaB
    isplitl [HaS]; · iexact HaS
    isplitl [HaO]; · iexact HaO
    iexact HaV
  ihave L00 := (LGot_raw m c 0 0 14) $$ L00
  ihave L01 := (LGot_raw m c 0 1 14) $$ L01
  ihave L10 := (LGot_raw m c 1 0 15) $$ L10
  ihave L11 := (LGot_raw m c 1 1 15) $$ L11
  ihave ⟨H1, HW, HL⟩ := (lanes_elim m c) $$ [Hrest L00 L01 L10 L11]
  · iframe
  ihave H2 := (ys_end m ρ c) $$ HY
  imodintro
  iapply Hk
  unfold Φ₁ lanes0 wPts scratch XS Full
  isplitl [HW HL HZ HX H1 H2 HF]
  · isplitl [HW]; · iexact HW
    isplitl [HL]; · iexact HL
    isplitl [HZ]; · iexact HZ
    isplitl [HX]; · iexists _; iexact HX
    isplitl [H1]; · iexact H1
    isplitl [H2]; · iexact H2
    iexists _; iexact HF
  isplitl [HO]; · iexact HO
  isplitl [HI] <;> iassumption

/-! ## The pipeline's data and its obligations -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_stage (b : Ref sig .tc) (Y : b.ty.Contents (Elt F)) :
    (owns (Ix := Unit) (Name := ℕ) (U := UU) (Lvl := ℕ) (c : Thread nD τ) (Memref.whole b) fullShare Y : sProp 𝕄)
      = (((c : Thread nD τ).loc b) ↦{fullShare} Y) := by
  unfold owns
  simp only [Memref.view_whole, View.read_whole, View.set_whole]
  refine BI.equiv_iff.mp ⟨?_, ?_⟩
  · show iprop(∃ f : Buf (Elt F) ((c : Thread nD τ).loc b), ⌜f = Y⌝ ∗ (((c : Thread nD τ).loc b) ↦{fullShare} f)) ⊢ _
    iintro ⟨%f, %h, H⟩
    subst h
    iexact H
  · show (((c : Thread nD τ).loc b) ↦{fullShare} Y : sProp 𝕄) ⊢ iprop(∃ f : Buf (Elt F) ((c : Thread nD τ).loc b), ⌜f = Y⌝ ∗ (((c : Thread nD τ).loc b) ↦{fullShare} f))
    iintro H
    iexists Y
    isplitr; · ipureintro; rfl
    iexact H

theorem owes_before : (dats m ρ 0 c).owesAt () t0_0.castSucc ⊢ Owe (F := F) c 1 1 := by
  unfold Dat.owesAt Pipeline.owesWithin Owe
  iintro ⟨%W, -, HO⟩
  iexists W
  iexact HO
theorem owes_after : Owe (F := F) c 32 32 ⊢ (dats m ρ 0 c).owesAt () t0_0.succ := by
  unfold Dat.owesAt Pipeline.owesWithin Owe
  rw [owed_none]
  iintro ⟨%W, HO⟩
  iexists W
  isplitr; · ipureintro; exact fun _ _ => Or.inl trivial
  iexact HO

def bodyPre : sProp 𝕄 :=
  iprop(Φ₀ m ρ c ∗ (dats m ρ 0 c).owesAt () t0_0.castSucc
    ∗ (∃ d, ((c : Thread nD τ).loc cc0_stg0_0) ↦{fullShare} ((dats m ρ 0 c).before (0 : Fin 2) t0_0 d))
    ∗ (∃ d, ((c : Thread nD τ).loc cc0_stg1_0) ↦{fullShare} ((dats m ρ 0 c).before (1 : Fin 2) t0_0 d)))
def bodyPost : sProp 𝕄 :=
  iprop(Φ₁ m c ∗ (dats m ρ 0 c).owesAt () t0_0.succ ∗ (((c : Thread nD τ).loc cc0_stg0_0) ↦{fullShare} (xstg m ρ c))
    ∗ (((c : Thread nD τ).loc cc0_stg1_0) ↦{fullShare} (outAt m ρ c)))

theorem before_x (d) : (dats m ρ 0 c).before (0 : Fin 2) t0_0 d = xstg m ρ c := by
  unfold Dat.before; rw [if_pos (fetch0_0 t0_0)]; rfl

theorem body_held : bodyPre m ρ c ⊢ WP c (onWhole (cc0_body (F := F))) (fun _ => bodyPost m ρ c) := by
  unfold bodyPre bodyPost
  simp only [before_x]
  iintro ⟨HΦ, Ho, ⟨%d0, Hx⟩, ⟨%d1, Hout⟩⟩
  ihave HO := (owes_before m ρ c) $$ Ho
  iapply (body_sound m ρ c ((dats m ρ 0 c).before (1 : Fin 2) t0_0 d1)) $$ [HΦ HO Hx Hout]
  · iframe
  iintro ⟨HΦ, HO, Hx, Hout⟩
  ihave Ho := (owes_after m ρ c) $$ HO
  iframe

theorem body_obligation : BodyObligation (dats (F := F) m ρ 0 c) (defs₀ (F := F)) 𝒱₀ () Set.univ := fun t => by
  rw [fin_N0 t]
  rw [bigSep_W0, bigSep_W0]
  simp only [owns_stage]
  exact body_held m ρ c

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨HW, Hlev, Hcr, -, HG⟩
  ihave Hc := (creds (F := F) c) $$ Hcr
  imodintro
  unfold start G' wPts
  isplitl
  · isplitl [HG]; · iexact HG
    isplitl [Hc]; · iexact Hc
    isplitl [Hlev]; · iexact Hlev
    iexact HW
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit :
    (dats m ρ 0 c).Φ (Fin.last cfg0.N) ⊢ iprop((unscopedSems0 c ∗ wPts m c) ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨HW, HL, HZ, Hr⟩
  ihave ⟨HO, HU⟩ := (sems0_eq (F := F) c).2 $$ [HL HZ]
  · isplitl [HL] <;> iassumption
  iframe

theorem mayWait_stage (s : DmaSem sig) (hs : s.val < 22) (O : CellTallies nD τ sig Unit) (hO : O = O₀ c ∨ O = 0) :
    (levAts L lv : sProp 𝕄) ⊢ MayWait (c : Thread nD τ) (.dma s) () O := by
  rcases hO with rfl | rfl
  · exact mayWait c (.dma s) 1 1 (Or.inl (if_pos hs))
  · rw [← owed_none c]; exact mayWait_none c _

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

set_option maxRecDepth 16384 in
/-- From any memory with zero counters every execution ends, the windows' arrays at `finalA`, the weights as they were, every
    counter at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave ⟨HP, HX⟩ := (ownU_pair _ _) $$ Hu
      ihave HX := (show BI.own (embR (initOf allCells allToks, (1 : Counters))) ⊢ (BI.own (ER (initOf allCells allToks)) : sProp 𝕄) from Entails.of_eq rfl) $$ HX
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ wPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, HW⟩, -, HSI⟩
      unfold wPts Wm
      icombine HSI HW gives %h
      imod (Pipeline.unscopedSems0_read (X := unscopedSems0 c) (c := c) fupd_intro s') $$ [Hu HSI] with ⟨%hu, HSI⟩
      · isplitl [Hu] <;> iassumption
      imodintro
      isplitr; · ipureintro; exact ⟨hu, Buf.eq_of_forall_mem_univ h⟩
      iexact HSI)
    (hQ := fun _ h hs => ⟨fun c => ⟨fun w => (h c).1 w, (h c).2.2.2⟩, sem_eq_zero hs fun c => (h c).2.2.1⟩)

end Cert.A2A

end
-- ==== Proof.Final.lean ====
/-
  What the run leaves in the two arrays of the launch: the first argument as it was, and in the result the rows each device
  read out of its receive buffer.
-/
module

public import proofs.«01_k».proof.Proof.Run
public import Idealize.ShloMosaic.Lib.Pipeline.ValueKit

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 49 → ℕ) (c : Dev nD)

/-- The first argument is only read. -/
theorem final_in : finalA m ρ c (0 : Fin 2) = m ((c : Thread nD τ).loc main_arg0) :=
  (dats (F := F) m ρ 0 c).arrAt_in (0 : Fin 2) rfl _

/-- The result is written back once and whole: it ends as the body left it. -/
theorem final_out : finalA m ρ c (1 : Fin 2) = (outAt m ρ c : Buf (Elt F) ((c : Thread nD τ).loc main_v1)) :=
  (dats (F := F) m ρ 0 c).arrAt_eq_of_after_last (1 : Fin 2) t0_0 (by decide +kernel) _ (fun _ => rfl)

/-- The staged block is the whole first argument. -/
theorem xstg_eq : xstg m ρ c = (m ((c : Thread nD τ).loc main_arg0) : Vec F S256x8192 .bf16) := by
  funext i
  show m ((c : Thread nD τ).loc main_arg0) ((win0_0.blk (0 : Fin 1)).view.emb i) = _
  refine congrArg _ (funext fun a => Fin.ext ?_)
  show 0 * S256x8192.size a + 1 * (i a).val = (i a).val
  omega

/-- The run, every array named. -/
theorem run_named : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = (outAt m ρ c : Buf (Elt F) ((c : Thread nD τ).loc main_v1)))
    ∧ r.2.sem = fun _ => 0) :=
  (θ_run defs _ _).mono (fun _ h => ⟨fun c => ⟨((h.1 c).1 (0 : Fin 2)).trans (final_in m ρ c), (h.1 c).2,
    ((h.1 c).1 (1 : Fin 2)).trans (final_out m ρ c)⟩, h.2⟩) (run_main m ρ)

end Cert.A2A

end
-- ==== Proof.Value.lean ====
/-
  The result at an index, floats read as extended reals: row `256 * s + i` of device `c` is row `i` of the block that device
  `s` holds, against column `128 * c + l` of the weights, negative values replaced by zero. The kernel adds four products
  over a quarter of the inner axis each; together they are the product over the whole axis.
-/
module

public import proofs.«01_k».proof.Proof.Final

@[expose] public section

set_option maxRecDepth 16384

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)
variable (c : Dev nD)

/-- A sum over the inner axis, cut in four. -/
theorem sum_four {M : Type*} [AddCommMonoid M] (f : ℕ → M) :
    (∑ k : Fin 8192, f k.val) = (∑ k : Fin 2048, f k.val) + (∑ k : Fin 2048, f (2048 + k.val))
      + (∑ k : Fin 2048, f (4096 + k.val)) + (∑ k : Fin 2048, f (6144 + k.val)) := by
  simp only [Fin.sum_univ_eq_sum_range (fun k => f k), Fin.sum_univ_eq_sum_range (fun k => f (2048 + k)),
    Fin.sum_univ_eq_sum_range (fun k => f (4096 + k)), Fin.sum_univ_eq_sum_range (fun k => f (6144 + k))]
  rw [show (8192 : ℕ) = 6144 + 2048 from rfl, Finset.sum_range_add, show (6144 : ℕ) = 4096 + 2048 from rfl, Finset.sum_range_add,
    show (4096 : ℕ) = 2048 + 2048 from rfl, Finset.sum_range_add]

/-- A row of the first argument's block on device `c`, and a column of the weights there, by position. -/
def xrow (i : Fin 256) (k : ℕ) : EReal := (m ((c : Thread nD τ).loc main_arg0) : Vec Ideal S256x8192 .bf16) (ix2 i (⟨k % 8192, Nat.mod_lt _ (by decide)⟩ : Fin 8192))
def wcol (j k : ℕ) : EReal := Wm m c (ix2 (⟨k % 8192, Nat.mod_lt _ (by decide)⟩ : Fin 8192) (⟨j % 4096, Nat.mod_lt _ (by decide)⟩ : Fin 4096))

theorem xs_apply (kk : ℕ) (hk : kk < 4) (i : Fin 256) (k : Fin 2048) : xs m ρ c kk (ix2 i k) = xrow m c i (2048 * kk + k.val) := by
  have e : X m ρ c = (m ((c : Thread nD τ).loc main_arg0) : Vec Ideal S256x8192 .bf16) := by
    rw [← xstg_eq m ρ c]; funext j; idx_vars j; unfold X; pointwise [k0_pay1]
  unfold xs xrow
  rw [e]
  rfl

theorem wb_apply (t n : ℕ) (hn : n < 4) (k : Fin 2048) (j : Fin 1024) :
    wb m c (4 * t + n) (ix3 (0 : Fin 1) k j) = wcol m c (1024 * ((c.val / 8 + t) % 4) + j.val) (2048 * n + k.val) := by
  have e₁ : (4 * t + n) % 4 = n := by omega
  have e₂ : (4 * t + n) / 4 = t := by omega
  show wcol m c (1024 * ((c.val / 8 + (4 * t + n) / 4) % 4) + j.val) (2048 * ((4 * t + n) % 4) + k.val) = _
  rw [e₁, e₂]

/-- One quarter of the inner axis. -/
theorem quarter (t n : ℕ) (hn : n < 4) (i : Fin 256) (j : Fin 1024) (p : ℕ) (hp : 2048 * n = p) :
    (∑ k : Fin 2048, xs m ρ c n (ix2 i k) * wb m c (4 * t + n) (ix3 (0 : Fin 1) k j))
      = ∑ k : Fin 2048, xrow m c i (p + k.val) * wcol m c (1024 * ((c.val / 8 + t) % 4) + j.val) (p + k.val) :=
  Finset.sum_congr rfl fun k _ => by rw [xs_apply m ρ c n hn, wb_apply m c t n hn, hp]

/-- One group of columns on device `c`, at an index. -/
theorem yv_apply (t : ℕ) (i : Fin 256) (j : Fin 1024) :
    yv m ρ c t (ix3 (0 : Fin 1) i j)
      = max (∑ k : Fin 8192, xrow m c i k.val * wcol m c (1024 * ((c.val / 8 + t) % 4) + j.val) k.val) 0 := by
  have h0 := quarter m ρ c t 0 (by decide) i j 0 rfl
  simp only [Nat.zero_add, Nat.add_zero] at h0
  rw [sum_four (fun k => xrow m c i k * wcol m c (1024 * ((c.val / 8 + t) % 4) + j.val) k)]
  unfold yv
  pointwise [k0_pay2, k0_pay3, k0_pay4, k0_pay5, k0_pay6]
  rw [h0, quarter m ρ c t 1 (by decide) i j 2048 rfl, quarter m ρ c t 2 (by decide) i j 4096 rfl, quarter m ρ c t 3 (by decide) i j 6144 rfl]

/-- Slot `s` of the receive buffer: the rows of device `s` against this device's columns. -/
theorem RB_apply (s : Fin 32) (i : Fin 256) (l : Fin 128) :
    RB m ρ c (ix3 s i l) = max (∑ k : Fin 8192, xrow m s i k.val * wcol m s (128 * c.val + l.val) k.val) 0 := by
  have hc : c.val < 32 := c.isLt
  have e : 1024 * ((s.val / 8 + (c.val / 8 + 4 - s.val / 8) % 4) % 4) + (128 * (c.val % 8) + l.val) % 1024 = 128 * c.val + l.val := by omega
  refine (yv_apply m ρ s ((c.val / 8 + 4 - s.val / 8) % 4) i (⟨(128 * (c.val % 8) + l.val) % 1024, Nat.mod_lt _ (by decide)⟩ : Fin 1024)).trans ?_
  simp only [e]

/-- The result on device `c`, at a row and a column. -/
theorem outAt_apply (r : Fin 8192) (l : Fin 128) :
    (outAt m ρ c : Vec Ideal S8192x128 .f32) (ix2 r l)
      = max (∑ k : Fin 8192, xrow m (⟨r.val / 256, by omega⟩ : Fin 32) (⟨r.val % 256, Nat.mod_lt _ (by decide)⟩ : Fin 256) k.val
          * wcol m (⟨r.val / 256, by omega⟩ : Fin 32) (128 * c.val + l.val) k.val) 0 := by
  rw [← RB_apply m ρ c]
  unfold outAt
  pointwise [k0_pay27]

end Cert.A2A

end
-- ==== Proof.lean ====
/-
  The five claims put together. The run of the whole machine is `Cert.A2A.run_named` (Proof/Final.lean), proved once for any
  float values: read as words it gives the printed program's frame, read at the extended reals the second frame and, with
  `Cert.A2A.outAt_apply` (Proof/Value.lean), the equation between each device's result and its columns of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Lib.Claim
public import Idealize.ShloMosaic.Lib.LayoutAt
public import Idealize.ShloMosaic.Adequacy
public import Idealize.ShloMosaic.Init

@[expose] public section

set_option maxRecDepth 16384

noncomputable section

namespace Cert.Proof

open Idealize.ShloMosaic Idealize.SL.Sem Cert.A2A

/-- The printed program and its reading at the extended reals have one text: their body tables agree, -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg _ (funext fun i => funext fun a => ?_)
  match i, a with
  | ⟨0, _⟩, (t, s) => rfl

/-- and so do the tables with the launch's regions added. -/
theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

/-- The printed program: arguments unchanged, every counter at zero. -/
theorem frame_p : quiescent_Kernel := by
  intro m g _
  rw [defs_eq]
  exact (θ_run (Cert.KernelIdeal.defs (F := Bits)) (onTc (τ := Cert.KernelIdeal.τ) (Cert.KernelIdeal.main (F := Bits))) ⟨m, fun _ => 0, g⟩).mono
    (fun r h => ⟨fun c => ⟨(h.1 c).1, (h.1 c).2.1⟩, h.2⟩) (run_named (F := Bits) m g)

/-- The same at the extended reals. -/
theorem frame_pi : quiescent_KernelIdeal := fun m g _ =>
  (θ_run (Cert.KernelIdeal.defs (F := Ideal)) (onTc (τ := Cert.KernelIdeal.τ) (Cert.KernelIdeal.main (F := Ideal))) _).mono
    (fun _ h => ⟨fun c => ⟨(h.1 c).1, (h.1 c).2.1⟩, h.2⟩) (run_named (F := Ideal) m g)

/-- The reference's frame. -/
theorem frame_ri : quiescent_ReferenceIdeal := by
  intro m g _
  hlo_run
  · exact fun _ => ⟨trivial, trivial⟩
  · exact sem_eq_zero_of_no_sems rfl _

/-- The product with negative values replaced by zero, over the whole arrays. -/
def whole (x : Vec Ideal ⟨2, ![8192, 8192]⟩ .bf16) (w : Vec Ideal ⟨2, ![8192, 4096]⟩ .bf16) : Vec Ideal ⟨2, ![8192, 4096]⟩ .f32 :=
  fun j => max (∑ k : Fin 8192, x (ix2 (j 0) k) * w (ix2 k (j 1))) 0

/-- Each device's result is its columns of the whole product. -/
theorem value (m : (ℓ : Loc Cert.KernelIdeal.nD Cert.KernelIdeal.τ Cert.KernelIdeal.sig) → Buf (Elt Ideal) ℓ) (g : Dev Cert.KernelIdeal.nD → PrngReg)
    (x : Vec Ideal ⟨2, ![8192, 8192]⟩ .bf16) (w : Vec Ideal ⟨2, ![8192, 4096]⟩ .bf16)
    (h : ∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c x
      ∧ m ((c.tc : Thread Cert.KernelIdeal.nD Cert.KernelIdeal.τ).loc Cert.KernelIdeal.main_arg1) = w)
    (c : Dev Cert.KernelIdeal.nD) :
    (outAt m g c : Vec Ideal ⟨2, ![8192, 128]⟩ .f32) = Layout.block ⟨2, ![8192, 128]⟩ ⟨2, ![8192, 4096]⟩ 1 32 c (whole x w) := by
  funext i
  obtain ⟨r, l, rfl⟩ : ∃ (r : Fin 8192) (l : Fin 128), i = ix2 r l := ⟨i 0, i 1, eq_ix2 i⟩
  have hc : c.val < 32 := c.isLt
  have hx : ∀ k : Fin 8192, xrow m (⟨r.val / 256, by omega⟩ : Fin 32) (⟨r.val % 256, Nat.mod_lt _ (by decide)⟩ : Fin 256) k.val = x (ix2 r k) := by
    intro k
    unfold xrow
    rw [(h _).1]
    refine congrArg x (funext fun a => Fin.ext ?_)
    match a with
    | ⟨0, _⟩ => show r.val / 256 * 256 + r.val % 256 = r.val; omega
    | ⟨1, _⟩ => show k.val % 8192 = k.val; omega
  have hw : ∀ k : Fin 8192, wcol m (⟨r.val / 256, by omega⟩ : Fin 32) (128 * c.val + l.val) k.val = w (ix2 k (⟨128 * c.val + l.val, by omega⟩ : Fin 4096)) := by
    intro k
    refine (congrFun (h (⟨r.val / 256, by omega⟩ : Fin 32)).2 _).trans ?_
    refine congrArg w (funext fun a => Fin.ext ?_)
    match a with
    | ⟨0, _⟩ => show k.val % 8192 = k.val; omega
    | ⟨1, _⟩ => show (128 * c.val + l.val) % 4096 = 128 * c.val + l.val; omega
  refine (outAt_apply m g c r l).trans ?_
  simp only [hx, hw]
  refine Eq.symm (congrArg (whole x w) (show _ = ix2 r (⟨128 * c.val + l.val, by omega⟩ : Fin 4096) from funext fun a => Fin.ext ?_))
  match a with
  | ⟨0, _⟩ => rfl
  | ⟨1, _⟩ => show c.val * 128 + l.val = 128 * c.val + l.val; omega

/-- The two programs compute one array. -/
theorem algebraic : algebraic_KernelIdeal_ReferenceIdeal := by
  intro m g m' g' _ hm
  refine ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
     (θ_run _ _ _).mono (fun _ h c => ⟨((h.1 c).2.2).trans (value m g _ _ hm c), (h.1 c).1, (h.1 c).2.1⟩)
    (run_named (F := Ideal) m g), ?_⟩
  hlo_run
  funext j
  pointwise [whole]

theorem claim : Cert.Claim := ⟨Cert.Kernel.Gen.facts, Cert.KernelIdeal.Gen.facts, Cert.ReferenceIdeal.Gen.facts,
  frame_p, frame_pi, frame_ri, trivial, algebraic⟩

end Cert.Proof

end
